-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
-- ==== Pre_in_vocabulary.lean ====
abbrev S4096 : Shape := ⟨1, ![4096]⟩
abbrev S100000x64 : Shape := ⟨2, ![100000, 64]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S100000x64 .f32) (main_arg2 : FVec F S100000x64 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 100000#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096 : Shape := ⟨1, ![4096]⟩
abbrev S100000x64 : Shape := ⟨2, ![100000, 64]⟩
abbrev S_ : Shape := ⟨0, ![]⟩
abbrev S100000x128 : Shape := ⟨2, ![100000, 128]⟩
abbrev S32x128 : Shape := ⟨2, ![32, 128]⟩
abbrev S4096x128 : Shape := ⟨2, ![4096, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S100000x4096 : Shape := ⟨2, ![100000, 4096]⟩
abbrev S1024x64 : Shape := ⟨2, ![1024, 64]⟩
abbrev S1024x4096 : Shape := ⟨2, ![1024, 4096]⟩
abbrev S4096x64 : Shape := ⟨2, ![4096, 64]⟩
abbrev S4096x100000 : Shape := ⟨2, ![4096, 100000]⟩

abbrev nBuf : Table → Nat
  | .hbm => 10
  | .local .tc .vmem => 6
  | .local .scVector .vmem => 2
  | _ => 0

abbrev bufTy : (tb : Table) → Fin (nBuf tb) → BufTy
  | .hbm, ⟨0, _⟩ => ⟨S4096, .i32⟩
  | .hbm, ⟨1, _⟩ => ⟨S100000x64, .f32⟩
  | .hbm, ⟨2, _⟩ => ⟨S100000x64, .f32⟩
  | .hbm, ⟨3, _⟩ => ⟨S_, .i32⟩
  | .hbm, ⟨4, _⟩ => ⟨S_, .f32⟩
  | .hbm, ⟨5, _⟩ => ⟨S100000x128, .f32⟩
  | .hbm, ⟨6, _⟩ => ⟨S32x128, .i32⟩
  | .hbm, ⟨7, _⟩ => ⟨S4096x128, .f32⟩
  | .hbm, ⟨8, _⟩ => ⟨S100000x4096, .f32⟩
  | .hbm, ⟨9, _⟩ => ⟨S4096x100000, .f32⟩
  | .local .tc .vmem, ⟨0, _⟩ => ⟨S1024x64, .f32⟩
  | .local .tc .vmem, ⟨1, _⟩ => ⟨S1024x64, .f32⟩
  | .local .tc .vmem, ⟨2, _⟩ => ⟨S4096x128, .f32⟩
  | .local .tc .vmem, ⟨3, _⟩ => ⟨S1024x4096, .f32⟩
  | .local .tc .vmem, ⟨4, _⟩ => ⟨S1024x4096, .f32⟩
  | .local .tc .vmem, ⟨5, _⟩ => ⟨S4096x64, .bf16⟩
  | .local .scVector .vmem, ⟨0, _⟩ => ⟨S2x1x128, .i32⟩
  | .local .scVector .vmem, ⟨1, _⟩ => ⟨S2x128x128, .f32⟩
  | _, _ => ⟨S4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v0_scv : Ref sig .scVector := ⟨.hbm, 5, rfl⟩
abbrev main_v1_scv : Ref sig .scVector := ⟨.hbm, 6, rfl⟩
abbrev main_v2_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_scratch0 : Ref sig .tc := ⟨.vmem, 5, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_19_r0 : BitVec 32 := 0#32
  let c2_i32_r0 : BitVec 32 := 2#32
  let v20_r0 : BitVec 32 := Scalar.remui c0_i32_19_r0 c2_i32_r0
  let c0_i32_21_r0 : BitVec 32 := 0#32
  let c0_i32_22_r0 : BitVec 32 := 0#32
  ![v20_r0.toNat, 0, 0]
def k0_off2 (i : grid0.Coords) : Fin 2 → Nat :=
  let c1_i32_20_r0 : BitVec 32 := 1#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v7_r0 : BitVec 32 := Scalar.addi c0_i32_2_r0 v4
  let v21_r0 : BitVec 32 := Scalar.muli c1_i32_20_r0 v7_r0
  let c0_i32_23_r0 : BitVec 32 := 0#32
  ![v21_r0.toNat, 0]
def k0_off3 : Fin 1 → Nat :=
  let c0_i32_19_r0 : BitVec 32 := 0#32
  let c2_i32_r0 : BitVec 32 := 2#32
  let v20_r0 : BitVec 32 := Scalar.remui c0_i32_19_r0 c2_i32_r0
  ![v20_r0.toNat]
def k0_cond1 (i : grid0.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_48_r0 : BitVec 32 := 0#32
  let v41_r0 : BitVec 32 := Scalar.addi c0_i32_48_r0 v4
  let v46_r0 : BitVec 1 := Scalar.cmpi .ne v33_r0 v41_r0
  let c0_i32_33_r0 : BitVec 32 := 0#32
  let c0_i32_55_r0 : BitVec 32 := 0#32
  let v47_r0 : BitVec 1 := Scalar.cmpi .sge c0_i32_33_r0 c0_i32_55_r0
  let true_56_r0 : BitVec 1 := 1#1
  let v48_r0 : BitVec 1 := Scalar.xori v47_r0 true_56_r0
  let v49_r0 : BitVec 1 := Scalar.andi v46_r0 v48_r0
  let true_57_r0 : BitVec 1 := 1#1
  let v50_r0 : BitVec 1 := Scalar.andi v49_r0 true_57_r0
  let v51_r0 : BitVec 32 := Scalar.extui v50_r0
  let c0_i32_58_r0 : BitVec 32 := 0#32
  let v52_r0 : BitVec 1 := Scalar.cmpi .ne v51_r0 c0_i32_58_r0
  v52_r0

def k0_off4 : Fin 3 → Nat :=
  let c0_i32_27_r0 : BitVec 32 := 0#32
  let c1_i32_28_r0 : BitVec 32 := 1#32
  let v30_r0 : BitVec 32 := Scalar.addi c0_i32_27_r0 c1_i32_28_r0
  let c2_i32_119_r0 : BitVec 32 := 2#32
  let v134_r0 : BitVec 32 := Scalar.remui v30_r0 c2_i32_119_r0
  let c0_i32_121_r0 : BitVec 32 := 0#32
  let c0_i32_122_r0 : BitVec 32 := 0#32
  ![v134_r0.toNat, 0, 0]
def k0_off5 (i : grid0.Coords) : Fin 2 → Nat :=
  let c1_i32_120_r0 : BitVec 32 := 1#32
  let c0_i32_48_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v41_r0 : BitVec 32 := Scalar.addi c0_i32_48_r0 v4
  let v135_r0 : BitVec 32 := Scalar.muli c1_i32_120_r0 v41_r0
  let c0_i32_123_r0 : BitVec 32 := 0#32
  ![v135_r0.toNat, 0]
def k0_off6 : Fin 1 → Nat :=
  let c0_i32_27_r0 : BitVec 32 := 0#32
  let c1_i32_28_r0 : BitVec 32 := 1#32
  let v30_r0 : BitVec 32 := Scalar.addi c0_i32_27_r0 c1_i32_28_r0
  let c2_i32_119_r0 : BitVec 32 := 2#32
  let v134_r0 : BitVec 32 := Scalar.remui v30_r0 c2_i32_119_r0
  ![v134_r0.toNat]
def k0_cond2 (i : grid0.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v60_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let v61_r0 : BitVec 1 := Scalar.ori v60_r0 v31_r0
  let c0_i32_63_r0 : BitVec 32 := 0#32
  let v62_r0 : BitVec 1 := Scalar.cmpi .sge c0_i32_33_r0 c0_i32_63_r0
  let v63_r0 : BitVec 1 := Scalar.andi v61_r0 v62_r0
  let v64_r0 : BitVec 32 := Scalar.extui v63_r0
  let c0_i32_64_r0 : BitVec 32 := 0#32
  let v65_r0 : BitVec 1 := Scalar.cmpi .ne v64_r0 c0_i32_64_r0
  v65_r0

def k0_off7 : Fin 3 → Nat :=
  let c0_i32_29_r0 : BitVec 32 := 0#32
  let c2_i32_120_r0 : BitVec 32 := 2#32
  let v135_r0 : BitVec 32 := Scalar.remui c0_i32_29_r0 c2_i32_120_r0
  let c0_i32_121_r0 : BitVec 32 := 0#32
  let c0_i32_122_r0 : BitVec 32 := 0#32
  ![v135_r0.toNat, 0, 0]
def k0_off8 (i : grid0.Coords) : Fin 2 → Nat :=
  let c1_i32_119_r0 : BitVec 32 := 1#32
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let v134_r0 : BitVec 32 := Scalar.muli c1_i32_119_r0 v33_r0
  let c0_i32_123_r0 : BitVec 32 := 0#32
  ![v134_r0.toNat, 0]
def k0_off9 : Fin 1 → Nat :=
  let c0_i32_29_r0 : BitVec 32 := 0#32
  let c2_i32_120_r0 : BitVec 32 := 2#32
  let v135_r0 : BitVec 32 := Scalar.remui c0_i32_29_r0 c2_i32_120_r0
  ![v135_r0.toNat]
def k0_off10 : Fin 3 → Nat :=
  let c0_i32_30_r0 : BitVec 32 := 0#32
  let c2_i32_68_r0 : BitVec 32 := 2#32
  let v73_r0 : BitVec 32 := Scalar.remui c0_i32_30_r0 c2_i32_68_r0
  let c0_i32_119_r1 : BitVec 32 := 0#32
  let c0_i32_120_r1 : BitVec 32 := 0#32
  ![v73_r0.toNat, 0, 0]
def k0_cond5 (i : grid0.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_48_r0 : BitVec 32 := 0#32
  let v41_r0 : BitVec 32 := Scalar.addi c0_i32_48_r0 v4
  let v79_r0 : BitVec 1 := Scalar.cmpi .ne v33_r0 v41_r0
  let c0_i32_33_r0 : BitVec 32 := 0#32
  let c0_i32_35_r0 : BitVec 32 := 0#32
  let v32_r0 : BitVec 1 := Scalar.cmpi .eq c0_i32_33_r0 c0_i32_35_r0
  let v80_r0 : BitVec 1 := Scalar.ori v79_r0 v32_r0
  let v81_r0 : BitVec 32 := Scalar.extui v80_r0
  let c0_i32_71_r0 : BitVec 32 := 0#32
  let v82_r0 : BitVec 1 := Scalar.cmpi .ne v81_r0 c0_i32_71_r0
  v82_r0

def k0_off11 : Fin 3 → Nat :=
  let c0_i32_30_r0 : BitVec 32 := 0#32
  let c2_i32_119_r0 : BitVec 32 := 2#32
  let v134_r0 : BitVec 32 := Scalar.remui c0_i32_30_r0 c2_i32_119_r0
  let c0_i32_121_r0 : BitVec 32 := 0#32
  let c0_i32_122_r0 : BitVec 32 := 0#32
  ![v134_r0.toNat, 0, 0]
def k0_off12 (i : grid0.Coords) : Fin 2 → Nat :=
  let c128_i32_120_r0 : BitVec 32 := 128#32
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let v135_r0 : BitVec 32 := Scalar.muli c128_i32_120_r0 v33_r0
  let c0_i32_123_r0 : BitVec 32 := 0#32
  ![v135_r0.toNat, 0]
def k0_off13 : Fin 1 → Nat :=
  let c0_i32_30_r0 : BitVec 32 := 0#32
  let c2_i32_119_r0 : BitVec 32 := 2#32
  let v134_r0 : BitVec 32 := Scalar.remui c0_i32_30_r0 c2_i32_119_r0
  ![v134_r0.toNat]
def k0_cond7 (i : grid0.Coords) : BitVec 1 :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v92_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let true_77_r0 : BitVec 1 := 1#1
  let v93_r0 : BitVec 1 := Scalar.xori v31_r0 true_77_r0
  let v94_r0 : BitVec 1 := Scalar.andi v92_r0 v93_r0
  let v95_r0 : BitVec 32 := Scalar.extui v94_r0
  let c0_i32_78_r0 : BitVec 32 := 0#32
  let v96_r0 : BitVec 1 := Scalar.cmpi .ne v95_r0 c0_i32_78_r0
  v96_r0

def k0_off14 : Fin 3 → Nat :=
  let c0_i32_31_r0 : BitVec 32 := 0#32
  let c2_i32_119_r0 : BitVec 32 := 2#32
  let v134_r0 : BitVec 32 := Scalar.remui c0_i32_31_r0 c2_i32_119_r0
  let c0_i32_121_r0 : BitVec 32 := 0#32
  let c0_i32_122_r0 : BitVec 32 := 0#32
  ![v134_r0.toNat, 0, 0]
def k0_off15 (i : grid0.Coords) : Fin 2 → Nat :=
  let c128_i32_120_r0 : BitVec 32 := 128#32
  let c0_i32_42_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v37_r0 : BitVec 32 := Scalar.addi c0_i32_42_r0 v4
  let v135_r0 : BitVec 32 := Scalar.muli c128_i32_120_r0 v37_r0
  let c0_i32_123_r0 : BitVec 32 := 0#32
  ![v135_r0.toNat, 0]
def k0_off16 : Fin 1 → Nat :=
  let c0_i32_31_r0 : BitVec 32 := 0#32
  let c2_i32_119_r0 : BitVec 32 := 2#32
  let v134_r0 : BitVec 32 := Scalar.remui c0_i32_31_r0 c2_i32_119_r0
  ![v134_r0.toNat]
def k0_off17 (i : grid0.Coords) : Fin 3 → Nat :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v92_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let true_77_r0 : BitVec 1 := 1#1
  let v93_r0 : BitVec 1 := Scalar.xori v31_r0 true_77_r0
  let v94_r0 : BitVec 1 := Scalar.andi v92_r0 v93_r0
  let true_79_r0 : BitVec 1 := 1#1
  let v97_r0 : BitVec 1 := Scalar.andi v94_r0 true_79_r0
  let c0_i32_31_r0 : BitVec 32 := 0#32
  let c1_i32_80_r0 : BitVec 32 := 1#32
  let v98_r0 : BitVec 32 := Scalar.addi c0_i32_31_r0 c1_i32_80_r0
  let v99_r0 : BitVec 32 := Scalar.select v97_r0 v98_r0 c0_i32_31_r0
  let c2_i32_112_r0 : BitVec 32 := 2#32
  let v124_r0 : BitVec 32 := Scalar.remui v99_r0 c2_i32_112_r0
  let c0_i32_113_r0 : BitVec 32 := 0#32
  let c0_i32_114_r0 : BitVec 32 := 0#32
  ![v124_r0.toNat, 0, 0]
def k0_off18 (i : grid0.Coords) : Fin 2 → Nat :=
  let c128_i32_r0 : BitVec 32 := 128#32
  let c0_i32_93_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v111_r0 : BitVec 32 := Scalar.addi c0_i32_93_r0 v4
  let v125_r0 : BitVec 32 := Scalar.muli c128_i32_r0 v111_r0
  let c0_i32_115_r0 : BitVec 32 := 0#32
  ![v125_r0.toNat, 0]
def k0_off19 (i : grid0.Coords) : Fin 1 → Nat :=
  let c0_i32_36_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_36_r0 v4
  let c0_i32_42_r0 : BitVec 32 := 0#32
  let v37_r0 : BitVec 32 := Scalar.addi c0_i32_42_r0 v4
  let v92_r0 : BitVec 1 := Scalar.cmpi .ne v33_r0 v37_r0
  let c0_i32_33_r0 : BitVec 32 := 0#32
  let c0_i32_34_r0 : BitVec 32 := 0#32
  let v31_r0 : BitVec 1 := Scalar.cmpi .eq c0_i32_33_r0 c0_i32_34_r0
  let true_77_r0 : BitVec 1 := 1#1
  let v93_r0 : BitVec 1 := Scalar.xori v31_r0 true_77_r0
  let v94_r0 : BitVec 1 := Scalar.andi v92_r0 v93_r0
  let true_79_r0 : BitVec 1 := 1#1
  let v97_r0 : BitVec 1 := Scalar.andi v94_r0 true_79_r0
  let c0_i32_31_r0 : BitVec 32 := 0#32
  let c1_i32_80_r0 : BitVec 32 := 1#32
  let v98_r0 : BitVec 32 := Scalar.addi c0_i32_31_r0 c1_i32_80_r0
  let v99_r0 : BitVec 32 := Scalar.select v97_r0 v98_r0 c0_i32_31_r0
  let c2_i32_112_r0 : BitVec 32 := 2#32
  let v124_r0 : BitVec 32 := Scalar.remui v99_r0 c2_i32_112_r0
  ![v124_r0.toNat]
abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096 : Shape := ⟨1, ![4096]⟩
abbrev S100000x64 : Shape := ⟨2, ![100000, 64]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x64 : Shape := ⟨2, ![4096, 64]⟩
abbrev S64x100000 : Shape := ⟨2, ![64, 100000]⟩
abbrev S4096x100000 : Shape := ⟨2, ![4096, 100000]⟩

abbrev nBuf : Space → Nat
  | .hbm => 28
  | .vmem => 0
  | .smem => 0
  | _ => 0

abbrev bufTy : (tb : Table) → Fin (tcTables nBuf tb) → BufTy
  | .hbm, ⟨0, _⟩ => ⟨S4096, .i32⟩
  | .hbm, ⟨1, _⟩ => ⟨S100000x64, .f32⟩
  | .hbm, ⟨2, _⟩ => ⟨S100000x64, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x64, .f32⟩
  | .hbm, ⟨22, _⟩ => ⟨S4096x64, .i1⟩
  | .hbm, ⟨23, _⟩ => ⟨S_, .f32⟩
  | .hbm, ⟨24, _⟩ => ⟨S4096x64, .f32⟩
  | .hbm, ⟨25, _⟩ => ⟨S4096x64, .f32⟩
  | .hbm, ⟨26, _⟩ => ⟨S64x100000, .f32⟩
  | .hbm, ⟨27, _⟩ => ⟨S4096x100000, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]
-- ==== Proof.Setup.lean ====
/-
  What every later module shares: the program as the launch theorem reads it, the ghost state, the places the launch
  memory holds the operands in, the rows each SparseCore tile owns, and what the one SparseCore call hands its tiles.

  Thirty-two tiles (two SparseCores of sixteen) run the gather. Tile `(c, s)` is number `16 * c + s`: it reads row
  `16 * c + s` of the index table, all of the padded embedding table (a thirty-second share of it) and writes the
  block of 128 rows of the gathered array that starts at row `128 * (16 * c + s)`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import Idealize.ShloMosaic.Lib.ValueIdxCoords
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the SparseCore handshakes', the TensorCore pipeline's, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's part: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The operands' places -/

abbrev xLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

/-- The padded table, the index table and the gathered array as a tile names them, and its two scratch rings. -/
abbrev xV : Memref sig .scVector .hbm S100000x128 .f32 := Memref.whole main_v0_scv
abbrev iV : Memref sig .scVector .hbm S32x128 .i32 := Memref.whole main_v1_scv
abbrev oV : Memref sig .scVector .hbm S4096x128 .f32 := Memref.whole main_v2_scv
abbrev sV : Memref sig .scVector .vmem S2x1x128 .i32 := Memref.whole cc0_scoped0
abbrev rV : Memref sig .scVector .vmem S2x128x128 .f32 := Memref.whole cc0_scoped2

theorem idiv : 32 ∣ S32x128.size 0 := ⟨1, rfl⟩
theorem odiv : 32 ∣ S4096x128.size 0 := ⟨128, rfl⟩
abbrev irow (w : Fin 32) : Rect S32x128 := Rect.part (s := S32x128) (a₀ := 0) idiv w
abbrev orow (w : Fin 32) : Rect S4096x128 := Rect.part (s := S4096x128) (a₀ := 0) odiv w
abbrev iRowSet (w : Fin 32) : Finset S32x128.Idx := ((iV).view.slice (irow w)).set
abbrev oRowSet (w : Fin 32) : Finset S4096x128.Idx := ((oV).view.slice (orow w)).set

/-- Tile `w`'s share of the padded table. -/
abbrev xq (w : Fin 32) : PosShare TreeShare := pieceOf fullShare 32 (by decide) w

/-- The number of tile `s` of SparseCore `c`. -/
abbrev tid (c : Fin 2) (s : Fin 16) : Fin 32 := ⟨s.val + 16 * c.val, by omega⟩

/-! ## What the gather leaves -/

/-- The place of gathered row `r`'s word in the index table. -/
def wordAt (r : Fin 4096) : S32x128.Idx := ix2 (⟨r.val / 128, by omega⟩ : Fin 32) (⟨r.val % 128, by omega⟩ : Fin 128)

/-- The gathered array: row `r` is the padded table's row at the `r`-th index word. -/
def gat (xv : S100000x128.Idx → Elt F .f32) (iv : S32x128.Idx → Elt F .i32) : S4096x128.Idx → Elt F .f32 := fun j =>
  xv (ix2 (⟨(iv (wordAt (j 0))).toNat % 100000, Nat.mod_lt _ (by decide)⟩ : Fin 100000) (j 1 : Fin 128))

/-! ## What the call hands over -/

section Payload

variable (xv : (d : Dev nD) → Buf (Elt F) (xLoc d)) (iv : (d : Dev nD) → Buf (Elt F) (iLoc d)) (ov : (d : Dev nD) → Buf (Elt F) (oLoc d))

abbrev iRowPts (d : Dev nD) (w : Fin 32) : sProp 𝕄 := iLoc d ↦[iRowSet w]{fullShare} iv d
abbrev xShPts (d : Dev nD) (w : Fin 32) : sProp 𝕄 := xLoc d ↦{xq w} xv d
abbrev oRowPts (d : Dev nD) (w : Fin 32) (f : Buf (Elt F) (oLoc d)) : sProp 𝕄 := oLoc d ↦[oRowSet w]{fullShare} f

/-- What the gather leaves on device `d`. -/
abbrev gatB (d : Dev nD) : Buf (Elt F) (oLoc d) := gat (F := F) (xv d) (iv d)

/-- What tile `w` starts from: its row of index words, its share of the padded table, its rows of the output. -/
abbrev goW (d : Dev nD) (w : Fin 32) : sProp 𝕄 := iprop(iRowPts iv d w ∗ xShPts xv d w ∗ oRowPts d w (ov d))
/-- What it brings back: the same, its rows now the gathered ones. -/
abbrev tdW (d : Dev nD) (w : Fin 32) : sProp 𝕄 := iprop(iRowPts iv d w ∗ xShPts xv d w ∗ oRowPts d w (gatB xv iv d))

/-- The number of tile `i` of SparseCore `c`, over the call's own bounds. -/
abbrev tidK (c : Fin ((K (F := F)).nCore 0)) (i : Fin ((K (F := F)).nSub 0)) : Fin 32 := tid (Fin.cast nCore_zero c) (Fin.cast nSub_zero i)

/-- Each SparseCore takes its sixteen tiles' parts and brings back theirs. -/
def P : (K (F := F)).Pay (nD := nD) (Val := Elt F) (Name := ℕ) (U := UU) where
  st := fun q d c => match q with | 0 => bigSep Finset.univ fun i => goW xv iv ov d (tidK c i)
  dn := fun q d c => match q with | 0 => bigSep Finset.univ fun i => tdW xv iv d (tidK c i)
  go := fun q d c i => match q with | 0 => goW xv iv ov d (tidK c i)
  td := fun q d c i => match q with | 0 => tdW xv iv d (tidK c i)
  x := fun _ _ => iprop(emp)

instance P_storable : (P (F := F) xv iv ov).IsStorable where
  st q d c := match q with
    | 0 => (inferInstance : BI.Storable (upEmb : UEmb _ 𝕄) (bigSep Finset.univ fun i => goW xv iv ov d (tidK c i)))
  dn q d c := match q with
    | 0 => (inferInstance : BI.Storable (upEmb : UEmb _ 𝕄) (bigSep Finset.univ fun i => tdW xv iv d (tidK c i)))
  go q d c i := match q with
    | 0 => (inferInstance : BI.Storable (upEmb : UEmb _ 𝕄) (goW xv iv ov d (tidK c i)))
  td q d c i := match q with
    | 0 => (inferInstance : BI.Storable (upEmb : UEmb _ 𝕄) (tdW xv iv d (tidK c i)))

/-- A SparseCore's part is its tiles' parts, so the split into tasks is the identity. -/
theorem vecSplit : (K (F := F)).VecSplit' (P xv iv ov) 0 := by
  intro d c
  show (bigSep Finset.univ fun i => goW xv iv ov d (tidK c i)) ⊢ |={Set.univ}=> iprop(
      (bigSep Finset.univ fun i => goW xv iv ov d (tidK c i))
      ∗ ((bigSep Finset.univ fun i => tdW xv iv d (tidK c i)) -∗ (bigSep Finset.univ fun i => tdW xv iv d (tidK c i))))
  iintro H; imodintro
  isplitl [H]; · iexact H
  iintro H; iexact H

end Payload

end Cert.Proof.Gather

end
-- ==== Proof.Split.lean ====
/-
  The whole arrays as the thirty-two tiles' parts: the index table and the gathered array by rows, the padded table by
  equal shares; and, with it, what the one SparseCore call takes and brings back, as whole arrays.
-/
module

public import proofs.«01_k».proof.Proof.Setup

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Rows -/

theorem iRowSet_eq (w : Fin 32) : iRowSet w = (irow w).set := by
  show ((View.whole (main_v1_scv : Ref sig .scVector)).slice (irow w)).set = _
  rw [View.set_slice]; exact Finset.map_refl

theorem oRowSet_eq (w : Fin 32) : oRowSet w = (orow w).set := by
  show ((View.whole (main_v2_scv : Ref sig .scVector)).slice (orow w)).set = _
  rw [View.set_slice]; exact Finset.map_refl

theorem irows_apart : ∀ w ∈ (Finset.univ : Finset (Fin 32)), ∀ w' ∈ (Finset.univ : Finset (Fin 32)), w ≠ w' → Disjoint (iRowSet w) (iRowSet w') :=
  fun w _ w' _ h => by rw [iRowSet_eq, iRowSet_eq]; exact Rect.part_disjoint idiv h

theorem orows_apart : ∀ w ∈ (Finset.univ : Finset (Fin 32)), ∀ w' ∈ (Finset.univ : Finset (Fin 32)), w ≠ w' → Disjoint (oRowSet w) (oRowSet w') :=
  fun w _ w' _ h => by rw [oRowSet_eq, oRowSet_eq]; exact Rect.part_disjoint odiv h

theorem irows_all : (Finset.univ : Finset (Fin 32)).biUnion iRowSet = Finset.univ :=
  (Finset.biUnion_congr rfl fun w _ => iRowSet_eq w).trans (Rect.biUnion_part idiv)

theorem orows_all : (Finset.univ : Finset (Fin 32)).biUnion oRowSet = Finset.univ :=
  (Finset.biUnion_congr rfl fun w _ => oRowSet_eq w).trans (Rect.biUnion_part odiv)

/-- The index table, row by row. -/
theorem index_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_apart, irows_all]

/-- The gathered array, block of rows by block of rows. -/
theorem gathered_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_apart, orows_all]

/-- The padded table, share by share. -/
theorem table_shares (d : Dev nD) (f : Buf (Elt F) (xLoc d)) :
    (xLoc d ↦{fullShare} f : sProp 𝕄) = bigSep Finset.univ fun w : Fin 32 => xLoc d ↦{xq w} f :=
  pointsTo_piecesOf Finset.univ f (by decide) fullShare

/-! ## The tiles counted through -/

/-- What every tile of every SparseCore holds is what the thirty-two tiles hold. -/
theorem all_tiles (Φ : Fin 32 → sProp 𝕄) :
    (bigSep Finset.univ fun c : Fin ((K (F := F)).nCore 0) => bigSep Finset.univ fun i : Fin ((K (F := F)).nSub 0) => Φ (tidK (F := F) c i))
      = bigSep Finset.univ Φ := by
  rw [← BI.bigSep_univ_prod fun x : Fin ((K (F := F)).nCore 0) × Fin ((K (F := F)).nSub 0) => Φ (tidK (F := F) x.1 x.2)]
  exact ((BI.bigSep_univ_equiv (finProdFinEquiv (m := 2) (n := 16)) Φ).trans
    (BI.bigSep_congr fun x _ => congrArg Φ (Fin.ext rfl))).symm

section Payload

variable (xv : (d : Dev nD) → Buf (Elt F) (xLoc d)) (iv : (d : Dev nD) → Buf (Elt F) (iLoc d)) (ov : (d : Dev nD) → Buf (Elt F) (oLoc d))

/-- What the call takes: the three arrays whole. -/
theorem call_takes (d : Dev nD) :
    (bigSep Finset.univ fun c : Fin ((K (F := F)).nCore 0) => (P xv iv ov).st 0 d c)
      = iprop((iLoc d ↦{fullShare} iv d) ∗ (xLoc d ↦{fullShare} xv d) ∗ oLoc d ↦{fullShare} ov d) := by
  rw [index_rows, table_shares, gathered_rows, ← BI.bigSep_sep', ← BI.bigSep_sep']
  exact all_tiles fun w => goW xv iv ov d w

/-- What it brings back: the same, the gathered array now holding the rows looked up. -/
theorem call_returns (d : Dev nD) :
    (bigSep Finset.univ fun c : Fin ((K (F := F)).nCore 0) => (P xv iv ov).dn 0 d c)
      = iprop((iLoc d ↦{fullShare} iv d) ∗ (xLoc d ↦{fullShare} xv d) ∗ oLoc d ↦{fullShare} gatB xv iv d) := by
  rw [index_rows, table_shares, gathered_rows, ← BI.bigSep_sep', ← BI.bigSep_sep']
  exact all_tiles fun w => tdW xv iv d w

end Payload

end Cert.Proof.Gather

end
-- ==== Proof.Host.lean ====
/-
  The program's host operations on a device: the valuation before the SparseCore call and its values at the buffers the
  kernels read, the ten arrays held at a valuation, and the transpose that makes the result.
-/
module

public import proofs.«01_k».proof.Proof.Split

@[expose] public section

noncomputable section

namespace Cert.Proof.Gather

open Cert.KernelIdeal Cert.KernelIdeal.Gen

open Idealize.ShloMosaic
open Idealize.ShloMosaic.StableHlo
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The operations -/

abbrev dr (r : Ref sig .tc) : DevRef τ sig := Proc.devRef .tc r

/-- The padding value, as an integer; -/
abbrev opZero : HloOp τ sig (Elt F) := nullary main_c (constantI S_ 32 0#32)
/-- converted; -/
abbrev opConv : HloOp τ sig (Elt F) := unary main_c main_call0_v0 ((sitofp .f32 ·) : (⟨S_, .i32⟩ : BufTy).Contents (Elt F) → (⟨S_, .f32⟩ : BufTy).Contents (Elt F))
/-- the input table widened to 128 columns with it; -/
abbrev opPad : HloOp τ sig (Elt F) := binary main_arg1 main_call0_v0 main_v0
  ((fun x v => pad S100000x128 ![0, 0] ![0, 64] ![0, 0] x v pads_S100000x64_S100000x128_000_0640 h_S_) :
    (⟨S100000x64, .f32⟩ : BufTy).Contents (Elt F) → (⟨S_, .f32⟩ : BufTy).Contents (Elt F) → (⟨S100000x128, .f32⟩ : BufTy).Contents (Elt F))
/-- the index vector as a table of 32 rows; -/
abbrev opRows : HloOp τ sig (Elt F) := reshape main_arg0 main_v1 (rfl : (.i32 : EltTy) = .i32) shapeCasts_S4096_S32x128
/-- the product turned. -/
abbrev opTurn : HloOp τ sig (Elt F) := unary main_v3 main_v4
  ((transpose S4096x100000 [1, 0] · transposes_S100000x4096_S4096x100000_1_0) : (⟨S100000x4096, .f32⟩ : BufTy).Contents (Elt F) → (⟨S4096x100000, .f32⟩ : BufTy).Contents (Elt F))

/-- The TensorCore's ten arrays. -/
abbrev S10 : Finset (DevRef τ sig) :=
  {dr main_arg0, dr main_arg1, dr main_arg2, dr main_c, dr main_call0_v0, dr main_v0, dr main_v1, dr main_v2, dr main_v3, dr main_v4}
/-- The two the last operation names. -/
abbrev S2 : Finset (DevRef τ sig) := {dr main_v3, dr main_v4}

theorem opZero_in : (opZero (F := F)).bufs ⊆ S10 := show ({dr main_c} : Finset (DevRef τ sig)) ⊆ S10 by decide
theorem opConv_in : (opConv (F := F)).bufs ⊆ S10 := show ({dr main_c, dr main_call0_v0} : Finset (DevRef τ sig)) ⊆ S10 by decide
theorem opPad_in : (opPad (F := F)).bufs ⊆ S10 := show ({dr main_arg1, dr main_call0_v0, dr main_v0} : Finset (DevRef τ sig)) ⊆ S10 by decide
theorem opRows_in : (opRows (F := F)).bufs ⊆ S10 := show ({dr main_arg0, dr main_v1} : Finset (DevRef τ sig)) ⊆ S10 by decide
theorem opTurn_in : (opTurn (F := F)).bufs ⊆ S2 := show ({dr main_v3, dr main_v4} : Finset (DevRef τ sig)) ⊆ S2 by decide

/-! ## The arrays held -/

theorem held_ten (d : Dev nD) (W : Valuation τ sig (Elt F)) :
    (held (SparseCore.T d) S10 W : sProp 𝕄)
      = iprop(((SparseCore.T d).loc main_arg0 ↦{fullShare} W (dr main_arg0)) ∗ ((SparseCore.T d).loc main_arg1 ↦{fullShare} W (dr main_arg1))
          ∗ ((SparseCore.T d).loc main_arg2 ↦{fullShare} W (dr main_arg2)) ∗ ((SparseCore.T d).loc main_c ↦{fullShare} W (dr main_c))
          ∗ ((SparseCore.T d).loc main_call0_v0 ↦{fullShare} W (dr main_call0_v0)) ∗ (xLoc d ↦{fullShare} W (dr main_v0))
          ∗ (iLoc d ↦{fullShare} W (dr main_v1)) ∗ (oLoc d ↦{fullShare} W (dr main_v2))
          ∗ ((SparseCore.T d).loc main_v3 ↦{fullShare} W (dr main_v3)) ∗ (SparseCore.T d).loc main_v4 ↦{fullShare} W (dr main_v4)) := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem held_two (d : Dev nD) (W : Valuation τ sig (Elt F)) :
    (held (SparseCore.T d) S2 W : sProp 𝕄)
      = iprop(((SparseCore.T d).loc main_v3 ↦{fullShare} W (dr main_v3)) ∗ (SparseCore.T d).loc main_v4 ↦{fullShare} W (dr main_v4)) := by
  unfold held S2
  rw [SparseCore.bigSep_insert' (by decide), bigSep_singleton]

theorem unscoped_ten (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1)
          ∗ ((SparseCore.T d).loc main_arg2 ↦{fullShare} W main_arg2) ∗ ((SparseCore.T d).loc main_c ↦{fullShare} W main_c)
          ∗ ((SparseCore.T d).loc main_call0_v0 ↦{fullShare} W main_call0_v0) ∗ (xLoc d ↦{fullShare} W main_v0)
          ∗ (iLoc d ↦{fullShare} W main_v1) ∗ (oLoc d ↦{fullShare} W main_v2)
          ∗ ((SparseCore.T d).loc main_v3 ↦{fullShare} W main_v3) ∗ (SparseCore.T d).loc main_v4 ↦{fullShare} W main_v4) := by
  unfold unscopedBufs
  rw [show (Finset.univ.filter fun b : Ref sig .tc => ¬ b.isScoped)
      = {main_arg0, main_arg1, main_arg2, main_c, main_call0_v0, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The values -/

section Values

variable (m : (ℓ : Loc nD τ sig) → Buf (Elt F) ℓ)

/-- The launch valuation. -/
def V0 (d : Dev nD) : Valuation τ sig (Elt F) := fun b => m (d, b)
/-- The valuation at the SparseCore call. -/
def V4 (d : Dev nD) : Valuation τ sig (Elt F) :=
  (opRows (F := F)).result ((opPad (F := F)).result ((opConv (F := F)).result ((opZero (F := F)).result (V0 m d))))

theorem unscoped_held (d : Dev nD) : (unscopedBufs d (fun b => m ((SparseCore.T d).loc b)) : sProp 𝕄) = held (SparseCore.T d) S10 (V0 m d) := by
  rw [unscoped_ten, held_ten]; rfl

/-- The padded table, -/
def xv (d : Dev nD) : Buf (Elt F) (xLoc d) :=
  pad S100000x128 ![0, 0] ![0, 64] ![0, 0] (m ((SparseCore.T d).loc main_arg1)) (sitofp (F := F) .f32 (constantI S_ 32 0#32)) pads_S100000x64_S100000x128_000_0640 h_S_
/-- and the index table. -/
def iv (d : Dev nD) : Buf (Elt F) (iLoc d) := shapeCast S32x128 (m ((SparseCore.T d).loc main_arg0)) shapeCasts_S4096_S32x128

theorem V4_arg0 (d : Dev nD) : V4 m d (dr main_arg0) = m ((SparseCore.T d).loc main_arg0) := by
  unfold V4 opRows opPad opConv opZero dr; after_results; rfl
theorem V4_arg1 (d : Dev nD) : V4 m d (dr main_arg1) = m ((SparseCore.T d).loc main_arg1) := by
  unfold V4 opRows opPad opConv opZero dr; after_results; rfl
theorem V4_arg2 (d : Dev nD) : V4 m d (dr main_arg2) = m ((SparseCore.T d).loc main_arg2) := by
  unfold V4 opRows opPad opConv opZero dr; after_results; rfl
theorem V4_v2 (d : Dev nD) : V4 m d (dr main_v2) = m ((SparseCore.T d).loc main_v2) := by
  unfold V4 opRows opPad opConv opZero dr; after_results; rfl
theorem V4_v3 (d : Dev nD) : V4 m d (dr main_v3) = m ((SparseCore.T d).loc main_v3) := by
  unfold V4 opRows opPad opConv opZero dr; after_results; rfl
theorem V4_v4 (d : Dev nD) : V4 m d (dr main_v4) = m ((SparseCore.T d).loc main_v4) := by
  unfold V4 opRows opPad opConv opZero dr; after_results; rfl
theorem V4_v0 (d : Dev nD) : V4 m d (dr main_v0) = xv m d := by
  unfold V4 opRows opPad opConv opZero dr; after_results; rfl
theorem V4_v1 (d : Dev nD) : V4 m d (dr main_v1) = iv m d := by
  unfold V4 opRows opPad opConv opZero dr; after_results; rfl

end Values

end Cert.Proof.Gather

end
-- ==== Proof.Tile.lean ====
/-
  One SparseCore tile's task. The tile copies its row of 128 index words into slot 0 of its index ring, waits, gathers
  the 128 rows of the padded table those words name into slot 0 of its row ring, waits, copies them out to its block of
  the gathered array and waits. It leaves its index row and its share of the table as they were, and its block holding
  the rows the words name.
-/
module

public import proofs.«01_k».proof.Proof.Setup

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type} [FloatOps F]

local notation "𝕄" => MT nD τ sig (HIx 1) (Elt F) ℕ UU ℕ

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The number of the tile at grid point `L`. -/
abbrev wL (L : grid0.Coords) : Fin 32 := tid (Fin.cast bound_zero (L 0)) (Fin.cast bound_one (L 1))

/-! ## The views the task uses -/

theorem inb_irow (L : grid0.Coords) : ∀ a, (![(L 1).val + 16 * (L 0).val, 0] : Fin 2 → ℕ) a + S1x128.size a ≤ S32x128.size a := by
  rw [← k0_off2_eq L]; exact k0_off2_inb L
theorem inb_orow (L : grid0.Coords) : ∀ a, (![128 * (L 1).val + 2048 * (L 0).val, 0] : Fin 2 → ℕ) a + S128x128.size a ≤ S4096x128.size a := by
  rw [← k0_off18_eq L]; exact k0_off18_inb L
theorem inb_idx : ∀ a, (![0, 0, 0] : Fin 3 → ℕ) a + S1x1x128.size a ≤ S2x1x128.size a := by decide
theorem inb_row : ∀ a, (![0, 0, 0] : Fin 3 → ℕ) a + S1x128x128.size a ≤ S2x128x128.size a := by decide
theorem inb_sem : ∀ a, (![0] : Fin 1 → ℕ) a + S1.size a ≤ S2.size a := by decide

/-- The tile's index row, its output block, the whole table, and slot 0 of each ring. -/
abbrev iRowK (L : grid0.Coords) : Memref sig .scVector .hbm S1x128 .i32 :=
  (iV).slice (Rect.unit (s := S32x128) ![(L 1).val + 16 * (L 0).val, 0] S1x128.size (inb_irow L)) (fun _ => rfl)
abbrev oRowK (L : grid0.Coords) : Memref sig .scVector .hbm S128x128 .f32 :=
  (oV).slice (Rect.unit (s := S4096x128) ![128 * (L 1).val + 2048 * (L 0).val, 0] S128x128.size (inb_orow L)) (fun _ => rfl)
abbrev xAllK : Memref sig .scVector .hbm S100000x128 .f32 :=
  (xV).slice (Rect.unit (s := S100000x128) ![0, 0] S100000x128.size inb_S100000x128_S100000x128_0_0) (fun _ => rfl)
abbrev sSlot : Memref sig .scVector .vmem S1x128 .i32 :=
  ((sV).slice (Rect.unit (s := S2x1x128) ![0, 0, 0] S1x1x128.size inb_idx) (fun _ => rfl)).squeeze S1x128 squeezes_S1x1x128_S1x128
abbrev sList : Memref sig .scVector .vmem S128 .i32 :=
  ((sSlot).slice (Rect.unit (s := S1x128) ![0, 0] S1x128.size inb_S1x128_S1x128_0_0) (fun _ => rfl)).squeeze S128 squeezes_S1x128_S128
abbrev rSlot : Memref sig .scVector .vmem S128x128 .f32 :=
  ((rV).slice (Rect.unit (s := S2x128x128) ![0, 0, 0] S1x128x128.size inb_row) (fun _ => rfl)).squeeze S128x128 squeezes_S1x128x128_S128x128

/-- The semaphores of the index copy, of the copy out and of the gather. -/
abbrev semA : DmaSem sig := ((cc0_scoped1.slice (Rect.unit (s := S2) ![0] S1.size inb_sem)).squeeze S_ squeezes_S1_S_).sem
abbrev semB : DmaSem sig := ((cc0_scoped3.slice (Rect.unit (s := S2) ![0] S1.size inb_sem)).squeeze S_ squeezes_S1_S_).sem
abbrev semC : DmaSem sig := cc0_scoped4.sem

/-! ## The views' elements -/

theorem irowK_eq : Rect.unit (s := S32x128) ![(L 1).val + 16 * (L 0).val, 0] S1x128.size (inb_irow L) = irow (wL L) := by
  unfold irow Rect.part Rect.block
  congr 1 <;> funext a
  · match a with
    | 0 => simp [Shape.partIx, Shape.partSize]; rfl
    | 1 => simp [Shape.partIx, Shape.partSize]
  · match a with
    | 0 => simp [Shape.partSize]
    | 1 => simp [Shape.partSize]
theorem orowK_eq : Rect.unit (s := S4096x128) ![128 * (L 1).val + 2048 * (L 0).val, 0] S128x128.size (inb_orow L) = orow (wL L) := by
  unfold orow Rect.part Rect.block
  congr 1 <;> funext a
  · match a with
    | 0 =>
      simp only [Shape.partIx, Shape.partSize]
      show 128 * (L 1).val + 2048 * (L 0).val = ((L 1).val + 16 * (L 0).val) * 128
      omega
    | 1 => simp [Shape.partIx, Shape.partSize]
  · match a with
    | 0 => simp [Shape.partSize]
    | 1 => simp [Shape.partSize]

theorem set_iRowK : (iRowK L).view.set = iRowSet (wL L) := by
  show ((iV).view.slice (Rect.unit (s := S32x128) ![(L 1).val + 16 * (L 0).val, 0] S1x128.size (inb_irow L))).set = ((iV).view.slice (irow (wL L))).set
  exact irowK_eq L ▸ rfl
theorem set_oRowK : (oRowK L).view.set = oRowSet (wL L) := by
  show ((oV).view.slice (Rect.unit (s := S4096x128) ![128 * (L 1).val + 2048 * (L 0).val, 0] S128x128.size (inb_orow L))).set = ((oV).view.slice (orow (wL L))).set
  exact orowK_eq L ▸ rfl
theorem set_xAllK : (xAllK).view.set = Finset.univ := by
  rw [show (xAllK).view.set = ((xV).view.slice (Rect.unit (s := S100000x128) ![0, 0] S100000x128.size inb_S100000x128_S100000x128_0_0)).set from rfl,
    View.set_slice_whole]
  ext i
  simp only [Rect.mem_set_unit, Finset.mem_univ, iff_true]
  intro a
  match a with
  | 0 => exact ⟨Nat.zero_le _, by simpa using (show (i 0).val < 100000 from (i 0).isLt)⟩
  | 1 => exact ⟨Nat.zero_le _, by simpa using (show (i 1).val < 128 from (i 1).isLt)⟩
theorem set_sList : (sList).view.set = (sSlot).view.set := by
  show (((sSlot).view.slice (Rect.unit (s := S1x128) ![0, 0] S1x128.size inb_S1x128_S1x128_0_0)).reshape S128 squeezes_S1x128_S128.numel_eq).set = _
  rw [View.set_reshape, View.set_slice, View.set]
  congr 1

/-! ## The values that travel -/

/-- The word the list holds at entry `k`: what the index copy landed at `(0, k)`. -/
theorem sList_read (fs : (sSlot).view.ty.Contents (Elt F)) (pay : S1x128.Idx → Elt F .i32) (x : S128.Idx) :
    (sList).view.read (Elt F) (View.write (Elt F) (sSlot).view fs pay Finset.univ) x = pay (ix2 (0 : Fin 1) (x 0 : Fin 128)) := by
  have h : (sList).view.read (Elt F) (View.write (Elt F) (sSlot).view fs pay Finset.univ) x
      = (sSlot).view.read (Elt F) (View.write (Elt F) (sSlot).view fs pay Finset.univ)
        ((Rect.unit (s := S1x128) ![0, 0] S1x128.size inb_S1x128_S1x128_0_0).emb (Shape.reshapeEquiv squeezes_S1x128_S128.numel_eq x)) := rfl
  rw [h, View.read_write_univ]
  congr 1
  have e : Shape.reshapeEquiv (s := S1x128) squeezes_S1x128_S128.numel_eq x = ix2 (0 : Fin 1) (x 0 : Fin 128) :=
    Shape.reshapeEquiv_eq_of_rowMajor _
      (((Shape.rowMajor_val_two (d := ![1, 128]) (ix2 (0 : Fin 1) (x 0 : Fin 128))).trans
        (show 0 * 128 + (x 0).val = (x 0).val by omega)).trans (Shape.rowMajor_val_one (d := ![128]) x).symm)
  refine (congrArg (Rect.unit (s := S1x128) ![0, 0] S1x128.size inb_S1x128_S1x128_0_0).emb e).trans ?_
  funext a
  match a with
  | 0 => exact Fin.ext (show 0 + 1 * 0 = 0 by omega)
  | 1 => exact Fin.ext (show 0 + 1 * (x 0).val = (x 0).val by omega)

variable (xv : (d : Dev nD) → Buf (Elt F) (xLoc d)) (iv : (d : Dev nD) → Buf (Elt F) (iLoc d)) (ov : (d : Dev nD) → Buf (Elt F) (oLoc d))

/-- The word at entry `k` of the tile's row of the index table. -/
theorem iRow_read (k : Fin 128) :
    (iRowK L).view.read (Elt F) (iv d) (ix2 (0 : Fin 1) k) = iv d (ix2 (wL L) k) := by
  refine ((View.read_apply _ _).trans (cast_eq _ _)).trans (congrArg (iv d) ?_)
  funext a
  match a with
  | 0 => exact Fin.ext (show (L 1).val + 16 * (L 0).val + 1 * 0 = (L 1).val + 16 * (L 0).val by omega)
  | 1 => exact Fin.ext (show 0 + 1 * k.val = k.val by omega)

/-- Every index word is a row of the table. -/
def InRange (d : Dev nD) : Prop := ∀ j : S32x128.Idx, (iv d j).toNat < 100000

/-- So every word of the tile's list is. -/
theorem list_inb (h : InRange iv d) (fs : (sSlot).view.ty.Contents (Elt F)) :
    ∀ x, ((sList).view.read (Elt F) (View.write (Elt F) (sSlot).view fs ((iRowK L).view.read (Elt F) (iv d)) Finset.univ) x).toNat
      < S100000x128.size gathers_S100000x128_S128x128.axis := by
  intro x
  rw [sList_read]
  exact (congrArg BitVec.toNat (iRow_read d L iv (x 0))).trans_lt (h _)

/-- What the gather lands at `y` of the row ring is what the gathered array holds at the same place of the tile's block. -/
theorem block_val (h : InRange iv d) (fs : (sSlot).view.ty.Contents (Elt F)) (y : S128x128.Idx) :
    SparseCore.gatherPayload gathers_S100000x128_S128x128 ((xAllK).view.read (Elt F) (xv d))
        (SparseCore.rows ((sList).view.read (Elt F) (View.write (Elt F) (sSlot).view fs ((iRowK L).view.read (Elt F) (iv d)) Finset.univ))
          (rfl : S128.numel = S128x128.size gathers_S100000x128_S128x128.axis') (list_inb d L iv h fs)) y
      = gatB xv iv d ((oRowK L).view.emb y) := by
  unfold SparseCore.gatherPayload
  refine ((View.read_apply _ _).trans (cast_eq _ _)).trans (congrArg (xv d) ?_)
  have hw : ∀ k : Fin 128, (S128.rowMajor.symm (k.cast (rfl : S128.numel = S128x128.size gathers_S100000x128_S128x128.axis').symm)) 0 = k := by
    intro k
    apply Fin.ext
    rw [← Shape.rowMajor_val_one (d := ![128])]
    exact congrArg Fin.val (S128.rowMajor.apply_symm_apply _)
  have hword : wordAt ((oRowK L).view.emb y 0) = ix2 (wL L) (y 0 : Fin 128) := by
    have hy : (y 0).val < 128 := (y 0).isLt
    have hv : ((oRowK L).view.emb y 0).val = 128 * (L 1).val + 2048 * (L 0).val + 1 * (y 0).val := rfl
    unfold wordAt
    congr 1
    · exact Fin.ext (show ((oRowK L).view.emb y 0).val / 128 = (L 1).val + 16 * (L 0).val by omega)
    · exact Fin.ext (show ((oRowK L).view.emb y 0).val % 128 = (y 0).val by omega)
  funext a
  match a with
  | 0 =>
    apply Fin.ext
    show 0 + 1 * (((sList).view.read (Elt F) (View.write (Elt F) (sSlot).view fs ((iRowK L).view.read (Elt F) (iv d)) Finset.univ)
      (S128.rowMajor.symm ((y 0 : Fin 128).cast (rfl : S128.numel = S128x128.size gathers_S100000x128_S128x128.axis').symm))).toNat)
      = (iv d (wordAt ((oRowK L).view.emb y 0))).toNat % 100000
    refine Eq.trans ?_ ((Nat.mod_eq_of_lt (h (ix2 (wL L) (y 0)))).symm.trans (congrArg (fun k => (iv d k).toNat % 100000) hword.symm))
    refine (by omega : ∀ a b : ℕ, a = b → 0 + 1 * a = b) _ _ (congrArg BitVec.toNat ?_)
    exact (sList_read _ _ _).trans ((iRow_read d L iv _).trans (congrArg (fun k : Fin 128 => iv d (ix2 (wL L) k)) (hw (y 0))))
  | 1 => exact Fin.ext (show 0 + 1 * (y 1).val = 0 + 1 * (y 1).val from rfl)

/-! ## The tile's own cells and buffers -/

abbrev cA (d : Dev nD) (c : Fin τ.nSC) (i : Fin τ.nSub) : GSem nD τ sig := (V d c i, .dma semA)
abbrev cB (d : Dev nD) (c : Fin τ.nSC) (i : Fin τ.nSub) : GSem nD τ sig := (V d c i, .dma semB)
abbrev cC (d : Dev nD) (c : Fin τ.nSC) (i : Fin τ.nSub) : GSem nD τ sig := (V d c i, .dma semC)

theorem semAB : semA ≠ semB := by decide
theorem semAC : semA ≠ semC := by decide
theorem semBC : semB ≠ semC := by decide

/-- The tile's own cells at zero: the three the task uses, and the rest. -/
theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  have hmem : ∀ s : DmaSem sig, (SemLoc.dma s : SemLoc sig).isScoped .scVector = true →
      ((V d (cV L) (jV L), SemLoc.dma s) : GSem nD τ sig) ∈ ownCells (V d (cV L) (jV L)) := fun s hs => mem_ownCells.mpr ⟨rfl, hs⟩
  have hne : ∀ s t : DmaSem sig, s ≠ t → ((V d (cV L) (jV L), SemLoc.dma s) : GSem nD τ sig) ≠ (V d (cV L) (jV L), SemLoc.dma t) := fun s t h e => by
    injection e with _ e; injection e with e; exact h e
  unfold SparseCore.Cfg.ownSems0
  rw [SparseCore.bigSep_erase' (hmem semA (by decide)),
    SparseCore.bigSep_erase' (Finset.mem_erase.mpr ⟨(hne _ _ semAB).symm, hmem semB (by decide)⟩),
    SparseCore.bigSep_erase' (Finset.mem_erase.mpr ⟨(hne _ _ semBC).symm, Finset.mem_erase.mpr ⟨(hne _ _ semAC).symm, hmem semC (by decide)⟩⟩)]

/-- The tile's own buffers: the two rings at some contents, and the rest. -/
theorem ownBufs_V :
    (ownBufs (V d (cV L) (jV L)) : sProp 𝕄)
      = iprop((∃ f, (V d (cV L) (jV L)).loc cc0_scoped0 ↦{fullShare} f) ∗ (∃ f, (V d (cV L) (jV L)).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## The conditions, constant over the grid: the pipeline runs one trip -/

theorem cond1 : ∀ i : grid0.Coords, ¬ k0_cond1 i = 1#1 := by decide +kernel
theorem cond2 : ∀ i : grid0.Coords, k0_cond2 i = 1#1 := by decide +kernel
theorem cond5 : ∀ i : grid0.Coords, k0_cond5 i = 1#1 := by decide +kernel
theorem cond7 : ∀ i : grid0.Coords, ¬ k0_cond7 i = 1#1 := by decide +kernel

end Cert.Proof.Gather

end
-- ==== Proof.TileRun.lean ====
/-
  The run of one tile's task, value included: the executor takes the copies, the gather's issue and wait are the
  library's rules for the indirect stream, and what the copy out leaves is the tile's block of the gathered array.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type} [FloatOps F]

local notation "𝕄" => MT nD τ sig (HIx 1) (Elt F) ℕ UU ℕ

variable (d : Dev nD) (L : grid0.Coords)

variable (xv : (d : Dev nD) → Buf (Elt F) (xLoc d)) (iv : (d : Dev nD) → Buf (Elt F) (iLoc d)) (ov : (d : Dev nD) → Buf (Elt F) (oLoc d))

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_xAllK (q : PosShare TreeShare) (f : Buf (Elt F) (xLoc d)) :
    ((xAllK).view.loc (V d (cV L) (jV L)) ↦[(xAllK).view.set]{q} f : sProp 𝕄) = xLoc d ↦{q} f := by
  rw [set_xAllK]

/-! ## The program's views at their closed offsets -/

theorem sSlot_of {off : Fin 3 → ℕ} (h : off = ![0, 0, 0]) (inb : ∀ a, off a + S1x1x128.size a ≤ S2x1x128.size a) :
    ((sV).slice (Rect.unit (s := S2x1x128) off S1x1x128.size inb) (fun _ => rfl)).squeeze S1x128 squeezes_S1x1x128_S1x128 = sSlot := by
  subst h; rfl
theorem rSlot_of {off : Fin 3 → ℕ} (h : off = ![0, 0, 0]) (inb : ∀ a, off a + S1x128x128.size a ≤ S2x128x128.size a) :
    ((rV).slice (Rect.unit (s := S2x128x128) off S1x128x128.size inb) (fun _ => rfl)).squeeze S128x128 squeezes_S1x128x128_S128x128 = rSlot := by
  subst h; rfl
theorem iRowK_of {off : Fin 2 → ℕ} (h : off = ![(L 1).val + 16 * (L 0).val, 0]) (inb : ∀ a, off a + S1x128.size a ≤ S32x128.size a) :
    ((iV).slice (Rect.unit (s := S32x128) off S1x128.size inb) (fun _ => rfl) : Memref sig .scVector .hbm S1x128 .i32) = iRowK L := by
  subst h; rfl
theorem oRowK_of {off : Fin 2 → ℕ} (h : off = ![128 * (L 1).val + 2048 * (L 0).val, 0]) (inb : ∀ a, off a + S128x128.size a ≤ S4096x128.size a) :
    ((oV).slice (Rect.unit (s := S4096x128) off S128x128.size inb) (fun _ => rfl) : Memref sig .scVector .hbm S128x128 .f32) = oRowK L := by
  subst h; rfl
theorem sem_of (s : DmaSems sig S2) {off : Fin 1 → ℕ} (h : off = ![0]) (inb : ∀ a, off a + S1.size a ≤ S2.size a) :
    ((s.slice (Rect.unit (s := S2) off S1.size inb)).squeeze S_ squeezes_S1_S_).sem
      = ((s.slice (Rect.unit (s := S2) ![0] S1.size inb_sem)).squeeze S_ squeezes_S1_S_).sem := by
  subst h; rfl

theorem sSlot_off1 : ((sV).slice (Rect.unit (s := S2x1x128) k0_off1 S1x1x128.size k0_off1_inb) (fun _ => rfl)).squeeze S1x128 squeezes_S1x1x128_S1x128 = sSlot :=
  sSlot_of k0_off1_eq _
theorem sSlot_off7 : ((sV).slice (Rect.unit (s := S2x1x128) k0_off7 S1x1x128.size (k0_off7_inb L (cond2 L))) (fun _ => rfl)).squeeze S1x128 squeezes_S1x1x128_S1x128 = sSlot :=
  sSlot_of k0_off7_eq _
theorem rSlot_off10 : ((rV).slice (Rect.unit (s := S2x128x128) k0_off10 S1x128x128.size k0_off10_inb) (fun _ => rfl)).squeeze S128x128 squeezes_S1x128x128_S128x128 = rSlot :=
  rSlot_of k0_off10_eq _
theorem rSlot_off11 : ((rV).slice (Rect.unit (s := S2x128x128) k0_off11 S1x128x128.size (k0_off11_inb L (cond5 L))) (fun _ => rfl)).squeeze S128x128 squeezes_S1x128x128_S128x128 = rSlot :=
  rSlot_of k0_off11_eq _
theorem rSlot_off17 : ((rV).slice (Rect.unit (s := S2x128x128) (k0_off17 L) S1x128x128.size (k0_off17_inb L)) (fun _ => rfl)).squeeze S128x128 squeezes_S1x128x128_S128x128 = rSlot :=
  rSlot_of (k0_off17_eq L) _
theorem iRowK_off2 : ((iV).slice (Rect.unit (s := S32x128) (k0_off2 L) S1x128.size (k0_off2_inb L)) (fun _ => rfl) : Memref sig .scVector .hbm S1x128 .i32) = iRowK L :=
  iRowK_of L (k0_off2_eq L) _
theorem iRowK_off8 : ((iV).slice (Rect.unit (s := S32x128) (k0_off8 L) S1x128.size (k0_off8_inb L (cond2 L))) (fun _ => rfl) : Memref sig .scVector .hbm S1x128 .i32) = iRowK L :=
  iRowK_of L (k0_off8_eq L) _
theorem oRowK_off12 : ((oV).slice (Rect.unit (s := S4096x128) (k0_off12 L) S128x128.size (k0_off12_inb L (cond5 L))) (fun _ => rfl) : Memref sig .scVector .hbm S128x128 .f32) = oRowK L :=
  oRowK_of L (k0_off12_eq L) _
theorem oRowK_off18 : ((oV).slice (Rect.unit (s := S4096x128) (k0_off18 L) S128x128.size (k0_off18_inb L)) (fun _ => rfl) : Memref sig .scVector .hbm S128x128 .f32) = oRowK L :=
  oRowK_of L (k0_off18_eq L) _
theorem semA_off3 : ((cc0_scoped1.slice (Rect.unit (s := S2) k0_off3 S1.size k0_off3_inb)).squeeze S_ squeezes_S1_S_).sem = semA :=
  sem_of _ k0_off3_eq _
theorem semA_off9 : ((cc0_scoped1.slice (Rect.unit (s := S2) k0_off9 S1.size (k0_off9_inb L (cond2 L)))).squeeze S_ squeezes_S1_S_).sem = semA :=
  sem_of _ k0_off9_eq _
theorem semB_off13 : ((cc0_scoped3.slice (Rect.unit (s := S2) k0_off13 S1.size (k0_off13_inb L (cond5 L)))).squeeze S_ squeezes_S1_S_).sem = semB :=
  sem_of _ k0_off13_eq _
theorem semB_off19 : ((cc0_scoped3.slice (Rect.unit (s := S2) (k0_off19 L) S1.size (k0_off19_inb L))).squeeze S_ squeezes_S1_S_).sem = semB :=
  sem_of _ (k0_off19_eq L) _

/-- What the copy out leaves in the tile's rows of the gathered array. -/
theorem out_block (hin : InRange iv d) (fs : Buf (Elt F) ((V d (cV L) (jV L)).loc cc0_scoped0)) (fr : Buf (Elt F) ((V d (cV L) (jV L)).loc cc0_scoped2))
    (x : S128x128.Idx → Elt F .f32)
    (hx : x = (rSlot).view.read (Elt F) (View.write (Elt F) (rSlot).view fr
          (SparseCore.gatherPayload gathers_S100000x128_S128x128 ((xAllK).view.read (Elt F) (xv d))
            (SparseCore.rows ((sList).view.read (Elt F) (View.write (Elt F) (sSlot).view fs ((iRowK L).view.read (Elt F) (iv d)) Finset.univ))
              rfl (list_inb d L iv hin fs))) Finset.univ)) :
    ((oRowK L).view.loc (V d (cV L) (jV L)) ↦[(oRowK L).view.set]{fullShare}
        (oRowK L).view.writes (Elt F) (ov d) [⟨Rect.whole S128x128, x⟩] : sProp 𝕄)
      = oRowPts d (wL L) (gatB xv iv d) := by
  refine (pointsTo_congr fun i hi => ?_).trans (pts_oRowK d L _)
  obtain ⟨y, -, rfl⟩ := Finset.mem_map.mp hi
  rw [← View.write_univ_eq_writes_whole, hx, View.read_write_univ]
  exact (View.write_emb_of_mem _ _ (Finset.mem_univ y)).trans (block_val d L xv iv hin fs y)

set_option maxHeartbeats 4000000 in
/-- The task at grid point `L` on device `d`. -/
theorem tile_body (hF : (K (F := F)).Facts) (hin : InRange iv d) (O : CellTallies nD τ sig (HIx 1)) (W : Waits sig (HIx 1)) (hO : ∀ g, O g none = 0) :
    iprop(levAts (K (F := F)).L (K (F := F)).lev ∗ emp
        ∗ goW xv iv ov d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L xV (Memref.isWhole_whole _) iV (Memref.isWhole_whole _) oV (Memref.isWhole_whole _)
            sV (Memref.isWhole_whole _) cc0_scoped1 rV (Memref.isWhole_whole _) cc0_scoped3 cc0_scoped4)
          fun _ => iprop(tdW xv iv d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_gather_kernel_eq_skeleton]; unfold cc0_gather_kernel_skel
  rw [k0_part5_eq_skeleton]; unfold k0_part5_skel
  rw [k0_part4_eq_skeleton, k0_part3_eq_skeleton, k0_part2_eq_skeleton, k0_part1_eq_skeleton]
  unfold k0_part4_skel k0_part3_skel k0_part2_skel k0_part1_skel
  simp -proj only [dif_neg (cond1 L), dif_pos (cond2 L), dif_pos (cond5 L), dif_neg (cond7 L), dite_eq_ite, ite_self,
    sSlot_off1, sSlot_off7 L, iRowK_off2 L, iRowK_off8 L, rSlot_off10, rSlot_off11 L, rSlot_off17 L, oRowK_off12 L, oRowK_off18 L,
    semA_off3, semA_off9 L, semB_off13 L, semB_off19 L]
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xAllK (F := F) d L _ _).symm) $$ Hx
  ihave Hss := (pointsTo_split_subset (q := fullShare) (f := fs) (S := Finset.univ) (Finset.subset_univ (sSlot).view.set)).1 $$ Hs
  icases Hss with ⟨Hs0, Hsr⟩
  ihave Hs' := (Entails.of_eq (show ((V d (cV L) (jV L)).loc cc0_scoped0 ↦[(sSlot).view.set]{fullShare} fs : sProp 𝕄)
      = (sSlot).view.loc (V d (cV L) (jV L)) ↦[(sSlot).view.set]{fullShare} fs from rfl)) $$ Hs0
  ihave Hrr := (pointsTo_split_subset (q := fullShare) (f := fr) (S := Finset.univ) (Finset.subset_univ (rSlot).view.set)).1 $$ Hr
  icases Hrr with ⟨Hr0, Hrr⟩
  ihave Hr' := (Entails.of_eq (show ((V d (cV L) (jV L)).loc cc0_scoped2 ↦[(rSlot).view.set]{fullShare} fr : sProp 𝕄)
      = (rSlot).view.loc (V d (cV L) (jV L)) ↦[(rSlot).view.set]{fullShare} fr from rfl)) $$ Hr0
  sl_exec
  have hN : ∀ h : S100000x128.Gathers 0 S128x128, ∑ j, ((rSlot).slice (S128x128.rowRect h.axis' j) (S128x128.stride_rowRect h.axis' j)).view.dmaCredit
      = (rSlot).view.dmaCredit := by decide
  ihave Hl := (Entails.of_eq (show ((sSlot).view.loc (V d (cV L) (jV L)) ↦[(sSlot).view.set]{fullShare}
        (sSlot).view.writes (Elt F) (sSlot).view.junk [⟨Rect.whole S1x128, tile_body.sl.dma0 d L iv⟩] : sProp 𝕄)
      = (sList).view.loc (V d (cV L) (jV L)) ↦[(sList).view.set]{fullShare}
        View.write (Elt F) (sSlot).view (sSlot).view.junk ((iRowK L).view.read (Elt F) (iv d)) Finset.univ by
      rw [set_sList, ← View.write_univ_eq_writes_whole]; rfl)) $$ Hs'
  iapply (SparseCore.wp_indirectGatherLocal countersEmb 𝒱₀ (V d (cV L) (jV L)) none (hg := gathers_S100000x128_S128x128) (default : HIx 1)
      (rSlot).view.dmaCredit (hN _) (by decide) (list_inb d L iv hin (sSlot).view.junk)) $$ [Hx' Hr' Hl HsemC]
  · isplitl [Hx']; · iexact Hx'
    isplitl [Hr']; · iexact Hr'
    isplitl [Hl]; · iexact Hl
    iexact HsemC
  iintro Hfl
  sl_exec
  iapply (Transfers.wp_waitLocalO countersEmb 𝒱₀ (V d (cV L) (jV L)) none (default : HIx 1) (rfl : (rSlot).view.dmaCredit = _)) $$ [Hfl HO]
  · isplitl [Hfl]; · iexact Hfl
    isplitl [HO]; · iexact HO
    iapply (Transfers.MayWaits.elim (SemLoc.dma semC)) $$ Hmw
  iintro ⟨⟨Hr', Hx', Hl⟩, HsemC, HO⟩
  sl_exec
  sl_step
  ihave Hxe := (Entails.of_eq (pts_xAllK (F := F) d L _ _)) $$ Hx'
  ihave Hl0 := (Entails.of_eq (show ((sList).view.loc (V d (cV L) (jV L)) ↦[(sList).view.set]{fullShare} _ : sProp 𝕄)
      = (V d (cV L) (jV L)).loc cc0_scoped0 ↦[(sSlot).view.set]{fullShare} _ by rw [set_sList])) $$ Hl
  ihave Hs := (pointsTo_join_subset (ℓ := (V d (cV L) (jV L)).loc cc0_scoped0) (q := fullShare) (S := Finset.univ) (Finset.subset_univ (sSlot).view.set)) $$ [Hl0 Hsr]
  · isplitl [Hl0] <;> iassumption
  ihave Hr0 := (Entails.of_eq (show ((rSlot).view.loc (V d (cV L) (jV L)) ↦[(rSlot).view.set]{fullShare} _ : sProp 𝕄)
      = (V d (cV L) (jV L)).loc cc0_scoped2 ↦[(rSlot).view.set]{fullShare} _ from rfl)) $$ Hr'
  ihave Hr := (pointsTo_join_subset (ℓ := (V d (cV L) (jV L)).loc cc0_scoped2) (q := fullShare) (S := Finset.univ) (Finset.subset_univ (rSlot).view.set)) $$ [Hr0 Hrr]
  · isplitl [Hr0] <;> iassumption
  ihave Hoc := (Entails.of_eq (out_block d L xv iv ov hin (sSlot).view.junk fr (tile_body.sl.dma0_1 d L xv iv hin fr) rfl)) $$ Ho'
  isplitl [Hi' Hxe Hoc]
  · isplitl [Hi']; · iapply (Entails.of_eq (pts_iRowK (F := F) d L _)); iexact Hi'
    isplitl [Hxe]; · iexact Hxe
    iexact Hoc
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- The grid point of tile `s` of SparseCore `c`. -/
def pointOf (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0_gather_kernel (pointOf c s)
          xV (Memref.isWhole_whole _) iV (Memref.isWhole_whole _) oV (Memref.isWhole_whole _)
          sV (Memref.isWhole_whole _) cc0_scoped1 rV (Memref.isWhole_whole _) cc0_scoped3 cc0_scoped4) ⟨⟩ c s := rfl

/-- A tile records no wait of a later call. -/
theorem widen_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile meets its obligation once the index words are rows of the table. -/
theorem tileObl (hin : ∀ d, InRange iv d) : (K (F := F)).TileObl (D (F := F)) 𝒱 (P xv iv ov) v₀ 0 := by
  intro d c i O W hO _ _
  simp only [show (P xv iv ov).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (pointOf ⟨_, hci.1⟩ ⟨_, hci.2⟩) xv iv ov facts (hin d) O W hO).trans (wp_mono frame _ _ fun _ => widen_waits)

end Cert.Proof.Gather

end
-- ==== Proof.Body.lean ====
/-
  The matrix-product kernel's body, run once for every staging buffer: at the grid's first point it rounds the first
  sixty-four columns of the gathered block into the scratch, at every point it multiplies its block of the output
  table by the scratch and stores the product.
-/
module

public import proofs.«01_k».proof.Proof.Setup

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the body computes -/

/-- The first sixty-four columns of a gathered array. -/
def leftCols (g : S4096x128.Idx → Elt F .f32) : S4096x64.Idx → Elt F .f32 := fun j =>
  g ((Rect.unit (s := S4096x128) ![0, 0] S4096x64.size inb_S4096x128_S4096x64_0_0).emb j)

/-- What the scratch holds once the first point has filled it. -/
def scr (g : S4096x128.Idx → Elt F .f32) : S4096x64.Idx → Elt F .bf16 := k1_pay1 (F := F) (leftCols g)

/-! ## The condition of the fill -/

theorem fill_first {i : grid1.Coords} (hi : (i 0).val = 0) :
    Scalar.cmpi .ne (Scalar.extui (Scalar.cmpi .eq (BitVec.ofNat 32 (i 0).val) 0#32) : BitVec 32) 0#32 = 1#1 := by
  rw [hi]; decide

theorem fill_later {i : grid1.Coords} (hi : (i 0).val ≠ 0) :
    ¬ Scalar.cmpi .ne (Scalar.extui (Scalar.cmpi .eq (BitVec.ofNat 32 (i 0).val) 0#32) : BitVec 32) 0#32 = 1#1 := by
  have h : ∀ k : Fin 98, k.val ≠ 0 →
      ¬ Scalar.cmpi .ne (Scalar.extui (Scalar.cmpi .eq (BitVec.ofNat 32 k.val) 0#32) : BitVec 32) 0#32 = 1#1 := by decide
  exact h (i 0) hi

/-! ## The accesses are the buffers whole -/

theorem off_zero : (![0, 0] : Fin 2 → ℕ) = fun _ => 0 := funext fun a => by fin_cases a <;> rfl

/-- A load at offsets zero and the view's own sizes reads the view. -/
theorem readAt_full {sp : Space} {s : Shape} {e : EltTy} (v : View sig .tc sp s e) (f : v.ty.Contents (Elt F)) {off : Fin s.rank → ℕ}
    (h : off = fun _ => 0) (inb : ∀ a, off a + s.size a ≤ s.size a) :
    v.readAt (Elt F) (Rect.unit (s := s) off s.size inb).toLoadRect f = v.read (Elt F) f := by
  subst h; funext j
  exact congrArg (v.read (Elt F) f) (funext fun a => Fin.ext (by show 0 + 1 * (j a).val = (j a).val; omega))

/-- A store there leaves the view holding what was stored. -/
theorem read_stored {sp : Space} {s : Shape} {e : EltTy} (v : View sig .tc sp s e) (f : v.ty.Contents (Elt F)) {off : Fin s.rank → ℕ}
    (h : off = fun _ => 0) (inb : ∀ a, off a + s.size a ≤ s.size a) (x : s.Idx → Elt F e) :
    v.read (Elt F) (v.writes (Elt F) f [⟨Rect.unit (s := s) off s.size inb, x⟩]) = x := by
  subst h; funext j
  have hj := View.read_writes_cons_emb v f (Rect.unit (s := s) (fun _ => 0) s.size inb) x [] j
  rwa [show (Rect.unit (s := s) (fun _ => 0) s.size inb).emb j = j from
    funext fun a => Fin.ext (by show 0 + 1 * (j a).val = (j a).val; omega)] at hj

section Run

variable (c : Dev nD) (E : Set ℕ) (i : grid1.Coords)
  (M0 : Memref sig .tc .vmem S1024x64 .f32) (h0 : M0.IsWhole) (M1 : Memref sig .tc .vmem S4096x128 .f32) (h1 : M1.IsWhole)
  (M2 : Memref sig .tc .vmem S1024x4096 .f32) (h2 : M2.IsWhole)
  (X0 : S1024x64.Idx → Elt F .f32) (X1 : S4096x128.Idx → Elt F .f32) (X2 : S1024x4096.Idx → Elt F .f32)

/-- The first point: the scratch, at anything, is filled; the product is stored. -/
theorem body_first (hi : (i 0).val = 0) (g : S4096x64.Idx → Elt F .bf16) (Q : PUnit → sProp 𝕄) :
    iprop(owns (c : Thread nD τ) M0 fullShare X0 ∗ owns (c : Thread nD τ) M1 fullShare X1 ∗ owns (c : Thread nD τ) M2 fullShare X2
        ∗ owns (c : Thread nD τ) (Memref.whole cc1_scratch0) fullShare g
        ∗ (iprop(owns (c : Thread nD τ) M0 fullShare X0 ∗ owns (c : Thread nD τ) M1 fullShare X1
            ∗ owns (c : Thread nD τ) M2 fullShare (k1_pay2 (F := F) X0 (scr X1))
            ∗ owns (c : Thread nD τ) (Memref.whole cc1_scratch0) fullShare (scr X1)) -∗ Q ⟨⟩))
      ⊢ wp frame (wpE (defs₀ (F := F)) 𝒱₀ (c : Thread nD τ) none) E
          (cc1__lambda_ i M0 h0 M1 h1 M2 h2 (Memref.whole cc1_scratch0) (Memref.isWhole_whole _)) Q := by
  rw [cc1__lambda__eq_skeleton]; unfold cc1__lambda__skel
  simp -proj only [dif_pos (fill_first hi), owns]
  iintro ⟨⟨%f0, %hf0, H0⟩, ⟨%f1, %hf1, H1⟩, ⟨%f2, -, H2⟩, ⟨%fs, -, Hs⟩, Hk⟩
  sl_exec!
  sl_step
  iapply Hk
  isplitl [H0]
  · iexists f0; isplitr; · ipureintro; exact hf0
    iexact H0
  isplitl [H1]
  · iexists f1; isplitr; · ipureintro; exact hf1
    iexact H1
  isplitl [H2]
  · iexists _; isplitr; swap; · iexact H2
    ipureintro
    unfold body_first.sl.H2_1
    refine (read_stored _ _ off_zero _ _).trans ?_
    rw [readAt_full _ _ off_zero, hf0]
    unfold body_first.sl.v5
    refine congrArg (k1_pay2 (F := F) X0) ((readAt_full _ _ off_zero _).trans ?_)
    unfold body_first.sl.Hs_1
    refine (read_stored _ _ off_zero _ _).trans ?_
    subst hf1; rfl
  · iexists _; isplitr; swap; · iexact Hs
    ipureintro
    unfold body_first.sl.Hs_1
    refine (read_stored _ _ off_zero _ _).trans ?_
    subst hf1; rfl

/-- A later point: the scratch, as the first left it, is read. -/
theorem body_later (hi : (i 0).val ≠ 0) (g : S4096x64.Idx → Elt F .bf16) (Q : PUnit → sProp 𝕄) :
    iprop(owns (c : Thread nD τ) M0 fullShare X0 ∗ owns (c : Thread nD τ) M1 fullShare X1 ∗ owns (c : Thread nD τ) M2 fullShare X2
        ∗ owns (c : Thread nD τ) (Memref.whole cc1_scratch0) fullShare g
        ∗ (iprop(owns (c : Thread nD τ) M0 fullShare X0 ∗ owns (c : Thread nD τ) M1 fullShare X1
            ∗ owns (c : Thread nD τ) M2 fullShare (k1_pay2 (F := F) X0 g)
            ∗ owns (c : Thread nD τ) (Memref.whole cc1_scratch0) fullShare g) -∗ Q ⟨⟩))
      ⊢ wp frame (wpE (defs₀ (F := F)) 𝒱₀ (c : Thread nD τ) none) E
          (cc1__lambda_ i M0 h0 M1 h1 M2 h2 (Memref.whole cc1_scratch0) (Memref.isWhole_whole _)) Q := by
  rw [cc1__lambda__eq_skeleton]; unfold cc1__lambda__skel
  simp -proj only [dif_neg (fill_later hi), owns]
  iintro ⟨⟨%f0, %hf0, H0⟩, ⟨%f1, %hf1, H1⟩, ⟨%f2, -, H2⟩, ⟨%fs, %hfs, Hs⟩, Hk⟩
  sl_exec!
  sl_step
  iapply Hk
  isplitl [H0]
  · iexists f0; isplitr; · ipureintro; exact hf0
    iexact H0
  isplitl [H1]
  · iexists f1; isplitr; · ipureintro; exact hf1
    iexact H1
  isplitl [H2]
  · iexists _; isplitr; swap; · iexact H2
    ipureintro
    unfold body_later.sl.H2_1
    refine (read_stored _ _ off_zero _ _).trans ?_
    rw [readAt_full _ _ off_zero, hf0]
    exact congrArg (k1_pay2 (F := F) X0) ((readAt_full _ _ off_zero _).trans hfs)
  · iexists fs; isplitr; · ipureintro; exact hfs
    iexact Hs

end Run

end Cert.Proof.Gather

end
-- ==== Proof.Region.lean ====
/-
  The matrix-product region: what its windows hold from point to point, the body obligation at every point, and the
  region as one step of the program. What a tile of the product holds on rows past the table's end depends on words
  nothing names, so the output window's contents are constrained, not named: the product of SOME filling of the block.
-/
module

public import proofs.«01_k».proof.Proof.Body

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat)

variable {F : FTy → Type} [FloatOps F]

local notation "𝕄" => MT nD τ sig (HIx 1) (Elt F) ℕ UU ℕ

/-- The tables prefetched: none. -/
abbrev adm : (p : Fin 1) → (pcfgs (F := F) p).Adm := fun p => (cfgs p).toPCfg_adm

/-- Grid point `t`'s one coordinate is `t`. -/
theorem coord_val : ∀ t : Fin grid1.N, (grid1.coords t 0).val = t.val := by decide +kernel

variable (ev : (c : Dev nD) → Buf (Elt F) ((c : Thread nD τ).loc main_arg2))
  (gv : (c : Dev nD) → Buf (Elt F) ((c : Thread nD τ).loc main_v2))
  (wv : (c : Dev nD) → Buf (Elt F) ((c : Thread nD τ).loc main_v3))

/-- The output table's block at point `t`, its part inside the table. -/
def tblk (c : Dev nD) (t : Fin cfg1.N) : (win1_0.xblock (grid1.coords t)).Idx → Elt F .f32 :=
  (win1_0.blk t).view.read (Elt F) (ev c)

/-- The tile of the product at point `t`, the rows of the staged block past the table's end holding `d`. -/
def tile (c : Dev nD) (t : Fin cfg1.N) (d : S1024x64.Idx → Elt F .f32) : S1024x4096.Idx → Elt F .f32 :=
  k1_pay2 (F := F) (win1_0.fill (grid1.coords t) d (tblk ev c t)) (scr (gv c))

/-- The waits the core may have recorded: those of the SparseCore call and of the region's own transfers. -/
def seen (c : Dev nD) : Set (SemLoc sig × HIx 1) := {p | (K (F := F)).lev ((c : Thread nD τ), p.1) p.2 ≤ 8}

/-- The region's proof data on core `c`. -/
def rdat (c : Dev nD) : RDat τ (Elt F) (HIx 1) ℕ UU ℕ cfg1 c where
  A w := match w with
    | ⟨0, _⟩ => ev c
    | ⟨1, _⟩ => gv c
    | ⟨2, _⟩ => wv c
  after w t := match w with
    | ⟨0, _⟩ => fun Y X => X = Y
    | ⟨1, _⟩ => fun Y X => X = Y
    | ⟨2, _⟩ => fun _ X => ∃ d, X = tile ev gv c t d
  Φ k := if k.val = 0 then iprop(∃ g, owns (c : Thread nD τ) (Memref.whole cc1_scratch0) fullShare g)
    else owns (c : Thread nD τ) (Memref.whole cc1_scratch0) fullShare (scr (gv c))
  q _ := fullShare
  owed _ := 0
  recorded _ := seen (F := F) c

def rdats (p : Fin 1) (c : Dev nD) : RDat τ (Elt F) (HIx 1) ℕ UU ℕ (Pipeline.pin (pcfgs (F := F)) adm p) c :=
  match p with
  | ⟨0, _⟩ => rdat ev gv wv c

/-! ## What the body finds -/

theorem finds_0 (c : Dev nD) (t : Fin cfg1.N) (X) (h : (rdat ev gv wv c).Finds 0 t X) :
    ∃ d, X = win1_0.fill (grid1.coords t) d (tblk ev c t) :=
  ((rdat ev gv wv c).finds_of_fetch (fetch1_0 t) X).mp h

/-- The gathered block, fetched whole. -/
theorem fetched_1 (c : Dev nD) (t : Fin cfg1.N) (d : S4096x128.Idx → Elt F .f32) :
    win1_1.fill (grid1.coords t) d ((win1_1.blk t).view.read (Elt F) (gv c)) = gv c := by
  funext j
  refine (win1_1.fill_xinj (grid1.coords t) d _ j).trans (congrArg (gv c) (funext fun a => Fin.ext ?_))
  match a with
  | ⟨0, _⟩ => show 0 * 4096 + 1 * (j 0).val = (j 0).val; omega
  | ⟨1, _⟩ => show 0 * 128 + 1 * (j 1).val = (j 1).val; omega

theorem finds_1 (c : Dev nD) : ∀ (n : ℕ) (h : n < cfg1.N) (X), (rdat ev gv wv c).Finds 1 ⟨n, h⟩ X → X = gv c
  | 0, h, X, hX => by
    obtain ⟨d, rfl⟩ := ((rdat ev gv wv c).finds_of_fetch ((fetch1_1 ⟨0, h⟩).mpr rfl) X).mp hX
    exact fetched_1 gv c ⟨0, h⟩ d
  | n + 1, h, X, hX => by
    have hn : n + 1 < 98 := h
    have hf : (cfg1.win 1).fetch ⟨n + 1, h⟩ = false :=
      Bool.eq_false_iff.mpr fun hc => by have := (fetch1_1 ⟨n + 1, h⟩).mp hc; simp only at this; omega
    rcases ((rdat ev gv wv c).finds_of_pos hf (Nat.succ_ne_zero n) X).mp hX with hfl | ⟨Y, hY, hYX⟩
    · exact absurd hfl (by unfold Pipeline.Window.flush; exact Bool.false_ne_true)
    · exact (show X = Y from hYX).trans (finds_1 c n (Nat.lt_of_succ_lt h) Y hY)

/-! ## The body obligation -/

theorem phi_zero (c : Dev nD) (k : Fin (cfg1.N + 1)) (h : k.val = 0) :
    (rdat ev gv wv c).Φ k = iprop(∃ g, owns (c : Thread nD τ) (Memref.whole cc1_scratch0) fullShare g) := if_pos h
theorem phi_pos (c : Dev nD) (k : Fin (cfg1.N + 1)) (h : k.val ≠ 0) :
    (rdat ev gv wv c).Φ k = owns (c : Thread nD τ) (Memref.whole cc1_scratch0) fullShare (scr (gv c)) := if_neg h

theorem body_obligation (c : Dev nD) : (rdat ev gv wv c).BodyObligation (defs₀ (F := F)) 𝒱₀ (none : HIx 1) Set.univ := fun t Y hY => by
  obtain ⟨d, h0⟩ := finds_0 ev gv wv c t (Y 0) (hY 0)
  have h1 : Y 1 = gv c := finds_1 ev gv wv c t.val t.isLt (Y 1) (hY 1)
  rw [bigSep_W1, bigSep_W1,
    show (rdat ev gv wv c).owesAt (none : HIx 1) t.succ = (rdat ev gv wv c).owesAt (none : HIx 1) t.castSucc from rfl,
    phi_pos ev gv wv c t.succ (Nat.succ_ne_zero _)]
  by_cases ht : t.val = 0
  · rw [phi_zero ev gv wv c t.castSucc ht]
    iintro ⟨⟨%g, Hs⟩, HO, H0, H1, H2⟩
    iapply (body_first c Set.univ (grid1.coords t) (st1_0 t) (hstage1_0 ((cfg1.slots t 0).cast nbuf1_0))
      (st1_1 t) (hstage1_1 ((cfg1.slots t 1).cast nbuf1_1)) (st1_2 t) (hstage1_2 ((cfg1.slots t 2).cast nbuf1_2))
      (Y 0) (Y 1) (Y 2) ((coord_val t).trans ht) g _)
    isplitl [H0]; · iexact H0
    isplitl [H1]; · iexact H1
    isplitl [H2]; · iexact H2
    isplitl [Hs]; · iexact Hs
    iintro ⟨H0, H1, H2, Hs⟩
    isplitl [Hs]; · rw [← h1]; iexact Hs
    isplitl [HO]; · iexact HO
    isplitl [H0]; · iexists _; isplitr; swap; (· iexact H0); ipureintro; exact rfl
    isplitl [H1]; · iexists _; isplitr; swap; (· iexact H1); ipureintro; exact rfl
    iexists _; isplitr; swap; (· iexact H2)
    ipureintro; exact ⟨d, by unfold tile; rw [← h0, ← h1]⟩
  · rw [phi_pos ev gv wv c t.castSucc ht]
    iintro ⟨Hs, HO, H0, H1, H2⟩
    iapply (body_later c Set.univ (grid1.coords t) (st1_0 t) (hstage1_0 ((cfg1.slots t 0).cast nbuf1_0))
      (st1_1 t) (hstage1_1 ((cfg1.slots t 1).cast nbuf1_1)) (st1_2 t) (hstage1_2 ((cfg1.slots t 2).cast nbuf1_2))
      (Y 0) (Y 1) (Y 2) (fun h => ht ((coord_val t).symm.trans h)) (scr (gv c)) _)
    isplitl [H0]; · iexact H0
    isplitl [H1]; · iexact H1
    isplitl [H2]; · iexact H2
    isplitl [Hs]; · iexact Hs
    iintro ⟨H0, H1, H2, Hs⟩
    isplitl [Hs]; · iexact Hs
    isplitl [HO]; · iexact HO
    isplitl [H0]; · iexists _; isplitr; swap; (· iexact H0); ipureintro; exact rfl
    isplitl [H1]; · iexists _; isplitr; swap; (· iexact H1); ipureintro; exact rfl
    iexists _; isplitr; swap; (· iexact H2)
    ipureintro; exact ⟨d, by unfold tile; rw [← h0]⟩

/-! ## The region -/

/-- What the core owes around the region: nothing, its recorded waits among those named. -/
abbrev idle (c : Dev nD) : sProp 𝕄 := iprop(∃ W, ⌜(K (F := F)).WBelow (c : Thread nD τ) W 8⌝ ∗ owes (c : Thread nD τ) (0 : CellTallies nD τ sig (HIx 1)) W)

/-- The region as one step of the program: from the three arrays to the three arrays as the pipeline leaves them. -/
def reg : RDat.RegionSeg (pcfgs (F := F)) adm (rdats ev gv wv) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := body_obligation ev gv wv c
  hwaits := RDat.hwaits_of_owed_zero _ _ _ _ (K (F := F)).L (K (F := F)).lev 0 fun _ _ => rfl
  pre c := iprop((rdat ev gv wv c).arrays (rdat ev gv wv c).A ∗ idle (F := F) c)
  post c := iprop((rdat ev gv wv c).arraysAt cfg1.N ∗ idle (F := F) c)
  X _ := BI.emp
  Y _ := BI.emp
  Z _ := BI.emp
  hentry c := by
    rw [Pipeline.ownSems0_none]
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      iexists W; isplitr
      · ipureintro; exact fun p hp => Or.inl (hW p hp)
      iexact HO
    isplitr <;> iempintro
  hin c := by
    rw [show (rdats ev gv wv 0 c).Φ 0 = _ from phi_zero ev gv wv c 0 rfl]
    iintro ⟨-, -, Hr⟩
    ihave Hr' := (Entails.of_eq (scopedRest1_eq c)) $$ Hr
    icases Hr' with ⟨%f, Hf⟩
    iexists f; rw [owns_whole_eq]; iexists f
    isplitr; · ipureintro; exact rfl
    iexact Hf
  hout c := by
    rw [Pipeline.ownSems0_none, show (rdats ev gv wv 0 c).Φ (Fin.last _) = _ from phi_pos ev gv wv c (Fin.last _) (by decide)]
    iintro Hr
    isplitr; · iempintro
    isplitr; · iempintro
    iapply (Entails.of_eq (scopedRest1_eq c).symm)
    ihave Hr' := (Entails.of_eq (owns_whole_eq (c : Thread nD τ) cc1_scratch0 fullShare (scr (gv c)))) $$ Hr
    icases Hr' with ⟨%f, -, Hf⟩
    iexists f; iexact Hf
  hexit c := by
    iintro ⟨Ha, HO, -, -⟩
    imodintro
    isplitl [Ha]; · iexact Ha
    unfold RDat.owesAt Pipeline.owesWithin
    icases HO with ⟨%W, %hW, HO⟩
    iexists W; isplitr; swap; · iexact HO
    ipureintro; intro p hp
    rcases hW hp with h | ⟨w, s, rfl⟩
    · exact h
    · exact Nat.zero_le _

end Cert.Proof.Gather

end
-- ==== Proof.Main.lean ====
/-
  The program's run, over any float values: the launch's ghost state, @main on a device's TensorCore (the host
  operations, the SparseCore call, the matrix-product region, the transpose), and what every final state holds.
-/
module

public import proofs.«01_k».proof.Proof.Host
public import proofs.«01_k».proof.Proof.TileRun
public import proofs.«01_k».proof.Proof.Region

@[expose] public section

noncomputable section

namespace Cert.Proof.Gather

open Cert.KernelIdeal Cert.KernelIdeal.Gen

open Idealize.ShloMosaic
open Idealize.ShloMosaic.TcCoe
open Idealize.ShloMosaic.StableHlo
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state -/

/-- The handshakes' initial element, the pipeline's, and no transfer in flight. -/
def u₀ : UU := (initOf (K (F := F)).hsCells (K (F := F)).hsToks, (initOf (Pipeline.cells cfgs cellOf_inj) (Pipeline.launchToks cfgs cellOf_inj), 1))

/-- What the launch deals device `d` for the region. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

/-- The SparseCore call's payloads at this launch. -/
abbrev Pm : (K (F := F)).Pay (nD := nD) (Val := Elt F) (Name := ℕ) (U := UU) := P (xv m) (iv m) (fun d => m (oLoc d))

theorem all_nothing {I : Type} (s : Finset I) : (bigSep s fun _ => iprop(emp)) = (iprop(emp) : sProp 𝕄) := bigSep_emp_const s

theorem launch_ghost : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (Pm m).x q thr) := by
  unfold u₀
  iintro Hu
  ihave H := (ownU_pair (initOf (K (F := F)).hsCells (K (F := F)).hsToks) _) $$ Hu
  icases H with ⟨HH, HR⟩
  ihave HR' := (own_pair_emb embR (initOf (Pipeline.cells cfgs cellOf_inj) (Pipeline.launchToks cfgs cellOf_inj)) (1 : Counters)) $$ HR
  icases HR' with ⟨HP, -⟩
  ihave HP' := (show (BI.own (((Emb.inl : Emb UP (UP × Counters)).trans embR) (initOf (Pipeline.cells cfgs cellOf_inj) (Pipeline.launchToks cfgs cellOf_inj))) : sProp 𝕄)
      ⊢ BI.own ((EP (F := F)) (initOf (Pipeline.cells (Pipeline.pin (pcfgs (F := F)) adm) cellOf_inj)
      (Pipeline.launchToks (Pipeline.pin (pcfgs (F := F)) adm) cellOf_inj))) from .rfl) $$ HP
  imod (Pipeline.fund_ghost (Pipeline.pin (pcfgs (F := F)) adm) (EP (F := F)) cellOf_inj) $$ HP' with ⟨Hg, Ht⟩
  imodintro
  isplitl [HH]; · iexact HH
  isplitl [Hg Ht]
  · rw [BI.bigSep_sep']
    isplitl [Hg]
    · rw [show (bigSep Finset.univ fun d : Dev nD => Pipeline.cellsGhost (Pipeline.pin (pcfgs (F := F)) adm) (EP (F := F)) 0 d)
        = bigSep Finset.univ fun d : Dev nD => bigSep Finset.univ fun p : Fin 1 => Pipeline.cellsGhost (Pipeline.pin (pcfgs (F := F)) adm) (EP (F := F)) p d from
        BI.bigSep_congr fun d _ => (bigSep_univ_of_subsingleton (0 : Fin 1)
          (Φ := fun p : Fin 1 => Pipeline.cellsGhost (Pipeline.pin (pcfgs (F := F)) adm) (EP (F := F)) p d)).symm]
      iexact Hg
    · rw [show (bigSep Finset.univ fun d : Dev nD => Pipeline.toksInit (Pipeline.pin (pcfgs (F := F)) adm) (EP (F := F)) 0 d)
        = bigSep Finset.univ fun d : Dev nD => bigSep Finset.univ fun p : Fin 1 => Pipeline.toksInit (Pipeline.pin (pcfgs (F := F)) adm) (EP (F := F)) p d from
        BI.bigSep_congr fun d _ => (bigSep_univ_of_subsingleton (0 : Fin 1)
          (Φ := fun p : Fin 1 => Pipeline.toksInit (Pipeline.pin (pcfgs (F := F)) adm) (EP (F := F)) p d)).symm]
      iexact Ht
  rw [show (bigSep Finset.univ fun thr : Thread nD τ => bigSep Finset.univ fun q : Fin 1 => (Pm m).x q thr) = bigSep Finset.univ fun _ => iprop(emp) from
    BI.bigSep_congr fun _ _ => bigSep_univ_of_subsingleton (0 : Fin 1), all_nothing]
  iempintro

/-! ## The region's arrays -/

abbrev gv (d : Dev nD) : Buf (Elt F) (oLoc d) := gatB (xv m) (iv m) d
abbrev ev (d : Dev nD) : Buf (Elt F) ((SparseCore.T d : Thread nD τ).loc main_arg2) := m ((SparseCore.T d).loc main_arg2)
abbrev wv (d : Dev nD) : Buf (Elt F) ((SparseCore.T d : Thread nD τ).loc main_v3) := m ((SparseCore.T d).loc main_v3)

/-- The region's proof data at this launch. -/
abbrev rd (d : Dev nD) : RDat τ (Elt F) (HIx 1) ℕ UU ℕ cfg1 d := rdat (ev m) (gv m) (wv m) d

theorem share_whole (d : Dev nD) (w : Fin cfg1.W) : (rd m d).share w = fullShare := by
  unfold RDat.share; split <;> rfl

theorem region_in (d : Dev nD) :
    ((rd m d).arrays (rd m d).A : sProp 𝕄)
      = iprop(((SparseCore.T d).loc main_arg2 ↦{fullShare} ev m d) ∗ (oLoc d ↦{fullShare} gv m d) ∗ (SparseCore.T d).loc main_v3 ↦{fullShare} wv m d) := by
  refine (Pipeline.RDat.arrays_eq (pcfgs (F := F)) adm (rdats (ev m) (gv m) (wv m)) 0 d (fun w => arr_whole1 w) (share_whole m d) _).trans ?_
  exact bigSep_W1 _

theorem region_out (d : Dev nD) :
    ((rd m d).arraysAt cfg1.N : sProp 𝕄)
      ⊢ iprop(((SparseCore.T d).loc main_arg2 ↦{fullShare} ev m d) ∗ ∃ G, ⌜(rd m d).ArrAt 2 cfg1.N G⌝ ∗ (SparseCore.T d).loc main_v3 ↦{fullShare} G) := by
  refine (Entails.of_eq ((Pipeline.RDat.arraysAt_eq (pcfgs (F := F)) adm (rdats (ev m) (gv m) (wv m)) 0 d (fun w => arr_whole1 w) (share_whole m d) _).trans (bigSep_W1 _))).trans ?_
  iintro ⟨⟨%E, %hE, HE⟩, -, ⟨%G, %hG, HG⟩⟩
  have hE' : E = ev m d := (congrFun (RDat.ArrAt_in (rd m d) 0 rfl _) E).mp hE
  subst hE'
  isplitl [HE]; · iexact HE
  iexists G; isplitr; · ipureintro; exact hG
  iexact HG

/-! ## @main -/

/-- The result: the product turned. -/
def turned (G : (⟨S100000x4096, .f32⟩ : BufTy).Contents (Elt F)) : (⟨S4096x100000, .f32⟩ : BufTy).Contents (Elt F) :=
  transpose S4096x100000 [1, 0] G transposes_S100000x4096_S4096x100000_1_0

/-- What @main leaves the claims: the arguments as launched, the result the turned product the region left. -/
abbrev FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ∃ G, ⌜(rd m d).ArrAt 2 cfg1.N G⌝ ∗ (SparseCore.T d).loc main_v4 ↦{fullShare} turned (F := F) G)

/-- The valuation before the last operation, the product at `G`. -/
def V5 (d : Dev nD) (G : (⟨S100000x4096, .f32⟩ : BufTy).Contents (Elt F)) : Valuation τ sig (Elt F) := Function.update (V4 m d) (dr main_v3) G

theorem held_before (d : Dev nD) (G : (⟨S100000x4096, .f32⟩ : BufTy).Contents (Elt F)) :
    (held (SparseCore.T d) S2 (V5 m d G) : sProp 𝕄)
      = iprop(((SparseCore.T d).loc main_v3 ↦{fullShare} G) ∗ (SparseCore.T d).loc main_v4 ↦{fullShare} m ((SparseCore.T d).loc main_v4)) := by
  rw [held_two, show V5 m d G (dr main_v3) = G from Function.update_self _ _ _,
    show V5 m d G (dr main_v4) = m ((SparseCore.T d).loc main_v4) from
      (Function.update_of_ne (show dr main_v4 ≠ dr main_v3 by decide) _ _).trans (V4_v4 m d)]

theorem held_after (d : Dev nD) (G : (⟨S100000x4096, .f32⟩ : BufTy).Contents (Elt F)) :
    (held (SparseCore.T d) S2 ((opTurn (F := F)).result (V5 m d G)) : sProp 𝕄)
      ⊢ ((SparseCore.T d).loc main_v4 ↦{fullShare} turned (F := F) G : sProp 𝕄) := by
  rw [held_two, show (opTurn (F := F)).result (V5 m d G) (dr main_v4) = turned G from
    (StableHlo.unary_result _ _ _ _ _ _).trans (congrArg (turned (F := F)) (Function.update_self _ _ _))]
  iintro ⟨-, H⟩; iexact H

theorem held_call (d : Dev nD) :
    (held (SparseCore.T d) S10 ((opRows (F := F)).result ((opPad (F := F)).result ((opConv (F := F)).result ((opZero (F := F)).result (V0 m d))))) : sProp 𝕄)
      ⊢ iprop(((SparseCore.T d).loc main_arg0 ↦{fullShare} m ((SparseCore.T d).loc main_arg0)) ∗ ((SparseCore.T d).loc main_arg1 ↦{fullShare} m ((SparseCore.T d).loc main_arg1))
          ∗ ((SparseCore.T d).loc main_arg2 ↦{fullShare} m ((SparseCore.T d).loc main_arg2))
          ∗ (xLoc d ↦{fullShare} xv m d) ∗ (iLoc d ↦{fullShare} iv m d) ∗ (oLoc d ↦{fullShare} m (oLoc d))
          ∗ ((SparseCore.T d).loc main_v3 ↦{fullShare} m ((SparseCore.T d).loc main_v3)) ∗ (SparseCore.T d).loc main_v4 ↦{fullShare} m ((SparseCore.T d).loc main_v4)) := by
  show (held (SparseCore.T d) S10 (V4 m d) : sProp 𝕄) ⊢ _
  rw [held_ten, V4_arg0, V4_arg1, V4_arg2, V4_v0, V4_v1, V4_v2, V4_v3, V4_v4]
  iintro ⟨H0, H1, H2, -, -, Hx, Hi, Ho, H3, H4⟩
  isplitl [H0]; · iexact H0
  isplitl [H1]; · iexact H1
  isplitl [H2]; · iexact H2
  isplitl [Hx]; · iexact Hx
  isplitl [Hi]; · iexact Hi
  isplitl [Ho]; · iexact Ho
  isplitl [H3]; · iexact H3
  iexact H4

/-- The region as the program calls it: from the three arrays, the core owing nothing, to the three arrays as it leaves
    them. -/
theorem region_call [∀ e, Nonempty (Elt F e)] (d : Dev nD) {Φ : PUnit → sProp 𝕄} :
    iprop((iprop(boundary (SparseCore.T d : Thread nD τ) ∗ (rd m d).arraysAt cfg1.N ∗ idle (F := F) d) -∗ Φ ⟨⟩)
        ∗ boundary (SparseCore.T d : Thread nD τ) ∗ ((rd m d).arrays (rd m d).A ∗ idle (F := F) d) ∗ levAts (K (F := F)).L (K (F := F)).lev ∗ ghost (F := F) d)
      ⊢ wp frame (wpE ((K (F := F)).defs (D (F := F))) 𝒱 (SparseCore.T d) none) Set.univ
          (Prog.lift (.customCall (SparseCore.inner (Pipeline.entry 0)) ())) Φ := by
  rw [show (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) from rfl]
  refine BI.Entails.trans ?_ ((K (F := F)).wp_liftProg (D (F := F)) 𝒱 (SparseCore.T d) Set.univ none _ Φ)
  have h := RDat.RegionSeg.wp (pcfgs (F := F)) adm (rdats (ev m) (gv m) (wv m)) (none : HIx 1) cellOf_inj EP defs₀ 𝒱₀
    (K (F := F)).L (K (F := F)).lev (reg (ev m) (gv m) (wv m)) d none (fun u hu => nomatch hu) .ret Φ
  refine BI.Entails.trans (show _ ⊢ iprop((iprop(boundary (SparseCore.T d : Thread nD τ) ∗ (rd m d).arraysAt cfg1.N ∗ idle (F := F) d)
        -∗ wp frame (wpE (D (F := F)) 𝒱 (SparseCore.T d) none) Set.univ (Prog.ret ⟨⟩) Φ)
      ∗ boundary (SparseCore.T d : Thread nD τ) ∗ ((rd m d).arrays (rd m d).A ∗ idle (F := F) d) ∗ levAts (K (F := F)).L (K (F := F)).lev
      ∗ ghost (F := F) d) from ?_) h
  iintro ⟨Hk, Hb, Hp, Hl, Hg⟩
  isplitl [Hk]
  · iintro H; rw [wp_ret]; imodintro; iapply Hk; iexact H
  isplitl [Hb]; · iexact Hb
  isplitl [Hp]; · iexact Hp
  isplitl [Hl]; · iexact Hl
  iexact Hg

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, Hg⟩
  iapply (wp_hlo_within 𝒱 (SparseCore.T d) none Set.univ (op := opZero) (S := S10) opZero_in (V := V0 m d)) $$ [Hb Hheld]
  · isplitl [Hb] <;> iassumption
  iintro ⟨Hb, Hheld⟩
  rw [wp_ret]; imodintro
  iapply (wp_hlo_within 𝒱 (SparseCore.T d) none Set.univ (op := opConv) (S := S10) opConv_in (V := (opZero (F := F)).result (V0 m d))) $$ [Hb Hheld]
  · isplitl [Hb] <;> iassumption
  iintro ⟨Hb, Hheld⟩
  rw [wp_ret]; imodintro
  iapply (wp_hlo_within 𝒱 (SparseCore.T d) none Set.univ (op := opPad) (S := S10) opPad_in (V := (opConv (F := F)).result ((opZero (F := F)).result (V0 m d)))) $$ [Hb Hheld]
  · isplitl [Hb] <;> iassumption
  iintro ⟨Hb, Hheld⟩
  rw [wp_ret]; imodintro; imodintro
  iapply (wp_hlo_within 𝒱 (SparseCore.T d) none Set.univ (op := opRows) (S := S10) opRows_in
    (V := (opPad (F := F)).result ((opConv (F := F)).result ((opZero (F := F)).result (V0 m d))))) $$ [Hb Hheld]
  · isplitl [Hb] <;> iassumption
  iintro ⟨Hb, Hheld⟩
  rw [wp_ret]; imodintro
  ihave Hh := (held_call (F := F) m d) $$ Hheld
  icases Hh with ⟨H0, H1, H2, Hx, Hi, Ho, H3, H4⟩
  -- the SparseCore call
  iapply ((K (F := F)).wp_run (D (F := F)) 𝒱 (EH := EH) (P := Pm m) κ d 0) $$ [Hst Hx Hi Ho Hb H0 H1 H2 H3 H4 Hts Hg]
  isplitr; · iexact Hctx
  isplitl [Hst]; · iexact Hst
  isplitl [Hx Hi Ho]
  · rw [call_takes]
    isplitl [Hi]; · iexact Hi
    isplitl [Hx]; · iexact Hx
    iexact Ho
  iintro ⟨Hst, Hdn⟩
  ihave Hdn' := (Entails.of_eq (call_returns (xv m) (iv m) (fun d => m (oLoc d)) d)) $$ Hdn
  icases Hdn' with ⟨Hi, Hx, Ho⟩
  -- the region
  ihave Hlev := (SparseCore.Cfg.ctx_levAts κ) $$ Hctx
  unfold SparseCore.Cfg.tcSt
  icases Hst with ⟨⟨%W, %hW, HO⟩, Hst'⟩
  rw [show (K (F := F)).Otc d (((0 : Fin 1) : ℕ) + 1) = 0 from (K (F := F)).Otc_end d le_rfl]
  iapply (region_call m d) $$ [Hb H2 Ho H3 HO Hlev Hg Hi Hx H0 H1 H4 Hts Hst']
  isplitr [Hb H2 Ho H3 HO Hlev Hg]
  swap
  · isplitl [Hb]; · iexact Hb
    isplitl [H2 Ho H3 HO]
    · isplitl [H2 Ho H3]
      · rw [region_in]
        isplitl [H2]; · iexact H2
        isplitl [Ho]; · iexact Ho
        iexact H3
      iexists W; isplitr; · ipureintro; exact hW
      iexact HO
    isplitl [Hlev]; · iexact Hlev
    iexact Hg
  iintro ⟨Hb, Ha, ⟨%W', %hW', HO⟩⟩
  ihave Ha' := (region_out m d) $$ Ha
  icases Ha' with ⟨H2, %G, %hG, H3⟩
  -- the transpose
  iapply (wp_hlo_within 𝒱 (SparseCore.T d) none Set.univ (op := opTurn) (S := S2) opTurn_in (V := V5 m d G)) $$ [Hb H3 H4]
  · isplitl [Hb]; · iexact Hb
    rw [held_before]
    isplitl [H3]; · iexact H3
    iexact H4
  iintro ⟨Hb, Hheld⟩
  ihave Hr := (held_after (F := F) m d G) $$ Hheld
  rw [wp_ret]; imodintro; imodintro
  isplitl [HO Hst']
  · isplitl [HO]
    · iexists W'; isplitr; · ipureintro; exact hW'
      rw [show (K (F := F)).Otc d 1 = 0 from (K (F := F)).Otc_end d le_rfl]
      iexact HO
    iexact Hst'
  isplitr [Hb Hts]
  · isplitl [H0]; · iexact H0
    isplitl [H1]; · iexact H1
    isplitl [H2]; · iexact H2
    iexists G; isplitr; · ipureintro; exact hG
    iexact Hr
  isplitl [Hb] <;> iassumption

/-! ## What every final state holds -/

/-- What a final memory holds on device `d`. -/
def Ends (d : Dev nD) (mem : (ℓ : Loc nD τ sig) → Buf (Elt F) ℓ) : Prop :=
  mem ((SparseCore.T d).loc main_arg0) = m ((SparseCore.T d).loc main_arg0)
    ∧ mem ((SparseCore.T d).loc main_arg1) = m ((SparseCore.T d).loc main_arg1)
    ∧ mem ((SparseCore.T d).loc main_arg2) = m ((SparseCore.T d).loc main_arg2)
    ∧ ∃ G, (rd m d).ArrAt 2 cfg1.N G ∧ mem ((SparseCore.T d).loc main_v4) = turned (F := F) G

set_option maxRecDepth 16384 in
theorem hfin (d : Dev nD) (s' : Phys nD τ sig (Elt F)) : iprop(FIN m d ∗ SI s') ⊢ (⌜Ends m d s'.mem.mem⌝ : sProp 𝕄) := by
  iintro ⟨⟨H0, H1, H2, %G, %hG, Hr⟩, HSI⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare)
    (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare)
    (f := m ((SparseCore.T d).loc main_arg2)))) $$ [HSI H2]
  · isplitl [HSI] <;> iassumption
  icases H with ⟨%h2, HSI, -⟩
  ihave H := (SI_pointsTo_agree (st := s') (ℓ := (SparseCore.T d).loc main_v4) (I := Finset.univ) (q := fullShare) (f := turned (F := F) G)) $$ [HSI Hr]
  · isplitl [HSI] <;> iassumption
  icases H with %h4
  ipureintro
  exact ⟨funext fun i => h0 i (Finset.mem_univ i), funext fun i => h1 i (Finset.mem_univ i), funext fun i => h2 i (Finset.mem_univ i),
    G, hG, funext fun i => h4 i (Finset.mem_univ i)⟩

/-- Every weakly fair execution ends, faultless, the arguments as launched, the result the turned product the region may
    have left, every counter at zero. -/
theorem run_main [∀ e, Nonempty (Elt F e)] (hin : ∀ d, InRange (iv m) d) :
    θ_run (Cert.KernelIdeal.defs (F := F)) (Cert.KernelIdeal.threads (F := F)) ⟨m, fun _ => 0, ρ⟩
      (fun r => (∀ d : Dev nD, Ends m d r.2.mem) ∧ r.2.sem = fun _ => 0) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (xv m) (iv m) (fun d => m (oLoc d)) hin)
    (fun q _ => match q with | 0 => SparseCore.Cfg.VecSplit.of_plain (vecSplit (xv m) (iv m) (fun d => m (oLoc d))))
    m ρ main (fun d => ghost (F := F) d) (FIN m) (u₀ (F := F)) (sep_elim_left.trans (launch_ghost m)) (hmain m ρ)
    (fun d s' => Ends m d s'.mem.mem) (hfin m) (fun r => (∀ d : Dev nD, Ends m d r.2.mem) ∧ r.2.sem = fun _ => 0) (fun _ h hz => ⟨h, hz⟩)

end Cert.Proof.Gather

end
-- ==== Proof.Range.lean ====
/-
  The precondition, read word by word: an index list it admits holds row numbers of the table.
-/
module

public import proofs.«01_k».proof.Proof.Main
public import proofs.«01_k».proof.Proof.Gen.Pre_in_vocabulary
public import Idealize.ShloMosaic.Lib.ReduceAll

@[expose] public section

noncomputable section

namespace Cert.Proof.Gather

open Idealize.ShloMosaic
open Idealize.ShloMosaic.TcCoe

variable {F : FTy → Type} [FloatOps F]

/-- A bit made of a truth value is set where the value is true. -/
theorem bit_one (b : Bool) : BitVec.ofBool b = 1#1 ↔ b = true := by cases b <;> decide

/-- A word between zero and a hundred thousand, both read signed, is a row number. -/
theorem word_small (v : BitVec 32) (h0 : IntOp.cmpi .sge v 0#32 = 1#1) (h1 : IntOp.cmpi .slt v 100000#32 = 1#1) :
    v.toNat < 100000 := by
  simp only [IntOp.cmpi, bit_one, BitVec.sle_eq_decide, BitVec.slt_eq_decide, decide_eq_true_eq,
    BitVec.toInt_eq_toNat_cond, BitVec.toNat_ofNat, Nat.reducePow, Nat.reduceMod] at h0 h1
  omega

/-- Where the precondition's function is one, every word of the list is a row number. -/
theorem small_of_pre (x : IVec Cert.Pre_in_vocabulary.S4096 32) (a b : FVec F Cert.Pre_in_vocabulary.S100000x64 .f32)
    (h : Cert.Pre_in_vocabulary.fn (F := F) x a b = fun _ => 1#1) (i : Cert.Pre_in_vocabulary.S4096.Idx) : (x i).toNat < 100000 := by
  haveI : Subsingleton Cert.Pre_in_vocabulary.S_.Idx := ⟨fun p q => funext fun k => k.elim0⟩
  have e := Host.reduce_andi_all _ _ _ _ (fun k => k.elim0) (congrFun h _) i
  have e' : IntOp.andi (IntOp.cmpi .sge (x i) 0#32) (IntOp.cmpi .slt (x i) 100000#32) = 1#1 := e
  exact word_small _ (IntOp.andi_eq_one.1 e').1 (IntOp.andi_eq_one.1 e').2

section Kernel

open Cert.KernelIdeal Cert.KernelIdeal.Gen

variable (m : (ℓ : Loc nD τ sig) → Buf (Elt F) ℓ)

/-- So every word of the list, laid out over the tiles, is. -/
theorem inRange_of_small (d : Dev nD) (h : ∀ i : S4096.Idx, (m ((d.tc : Thread nD τ).loc main_arg0) i : BitVec 32).toNat < 100000) :
    InRange (iv m) d := fun _ => h _

end Kernel

end Cert.Proof.Gather

end
-- ==== Proof.Frames.lean ====
/-
  The three frames: the kernel's run, once at the machine's floats and once at the ideal ones, with the values
  dropped; and the reference's.
-/
module

public import proofs.«01_k».proof.Defs
public import proofs.«01_k».proof.Proof.Range
public import proofs.«01_k».proof.Proof.Gen.Kernel
public import proofs.«01_k».proof.Proof.Gen.ReferenceIdeal.Run

@[expose] public section

noncomputable section

namespace Cert.Proof.Gather

open Idealize.ShloMosaic
open Idealize.ShloMosaic.TcCoe
open Idealize.SL.Sem

/-- The run's end with the values dropped, at any floats. -/
theorem run_frame {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (hp : ∀ c : Dev Cert.KernelIdeal.nD, Cert.Pre_in_vocabulary.fn (F := F)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) = fun _ => 1#1) :
    θ_run (Cert.KernelIdeal.defs (F := F)) (Cert.KernelIdeal.threads (F := F)) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2))
      ∧ r.2.sem = fun _ => 0) :=
  (θ_run (Cert.KernelIdeal.defs (F := F)) _ _).mono
    (fun _ h => ⟨fun c => ⟨(h.1 c).1, (h.1 c).2.1, (h.1 c).2.2.1⟩, h.2⟩)
    (run_main m ρ fun d => inRange_of_small m d (small_of_pre _ _ _ (hp d)))

/-- The two printed programs' kernel bodies are one table, … -/
theorem bodies_same : Cert.KernelIdeal.defs₀ (F := Bits) = Cert.Kernel.defs₀ (F := Bits) := by
  funext c l a
  match c, l, a with
  | .scVector c s, 0, _ => rfl
  | .scVector c s, 1, _ => rfl
  | .scScalar _, 0, _ => rfl
  | .scScalar _, 1, _ => rfl
  | .tc, 0, _ => rfl
  | .tc, 1, (t, s) => rfl

/-- … so their whole tables are. -/
theorem tables_same : Cert.KernelIdeal.defs (F := Bits) = Cert.Kernel.defs (F := Bits) :=
  congrArg (fun D => Cert.Kernel.sc.defs (Pipeline.defs Cert.Kernel.pcfgs D)) bodies_same

/-- The kernel at the machine's floats: the run written for the idealised program, at those floats. -/
theorem frame_kernel : Cert.quiescent_Kernel := fun m ρ hp => by
  have h := run_frame (F := Bits) m ρ hp
  rw [tables_same] at h
  exact h

/-- The kernel at the ideal floats. -/
theorem frame_ideal : Cert.quiescent_KernelIdeal := fun m ρ hp => run_frame (F := Ideal) m ρ hp

/-- The reference: it declares no semaphore. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

end Cert.Proof.Gather

end
-- ==== Proof.Product.lean ====
/-
  What the product region leaves, read at an element: the tile of that element's block of rows, at the element's
  place in the block. The last block overhangs the array's end; its rows past the end are not written.
-/
module

public import proofs.«01_k».proof.Proof.Region
public import Idealize.ShloMosaic.Lib.ValueIdxCore

@[expose] public section

noncomputable section

namespace Cert.Proof.Gather

open Cert.KernelIdeal Cert.KernelIdeal.Gen

open Idealize.ShloMosaic
open Idealize.ShloMosaic.TcCoe
open Idealize.ShloMosaic.ValueIdx
open Idealize.ShloMosaic.Pipeline (RDat)

variable {F : FTy → Type} [FloatOps F]

/-- The block a point works on is the block of the point's number. -/
theorem index_out (t : Fin grid1.N) : win1_2.index t (0 : Fin 2) = t.val := by
  show (BitVec.ofNat 32 (grid1.coords t 0).val).toNat = t.val
  rw [coord_val, BitVec.toNat_ofNat]
  have : t.val < 98 := t.isLt
  omega
theorem index_in (t : Fin grid1.N) : win1_0.index t (0 : Fin 2) = t.val := index_out t

/-- A row of the block that lies inside the array is among those moved. -/
theorem row_moved {t r : ℕ} (hr : r < 1024) (h : 1024 * t + r < 100000) : r < (Pipeline.Clip.of t 1024 100000).extent 1024 := by
  unfold Pipeline.Clip.of
  split
  · exact hr
  · show r < 100000 - t * 1024
    omega

/-- Row `r` and column `k` of the moved part of the output table's block at point `t`. -/
def inAt (t : Fin grid1.N) (r : Fin 1024) (k : Fin 64) (h : 1024 * t.val + r.val < 100000) : (win1_0.xblock (grid1.coords t)).Idx := fun a =>
  match a with
  | ⟨0, _⟩ => ⟨r.val, (row_moved r.isLt h).trans_eq (congrArg (fun i => (Pipeline.Clip.of i 1024 100000).extent 1024) (index_in t).symm)⟩
  | ⟨1, _⟩ => ⟨k.val, k.isLt⟩

/-- Row `r` and column `k` of the moved part of the product's block at point `t`. -/
def outAt (t : Fin grid1.N) (r : Fin 1024) (k : Fin 4096) (h : 1024 * t.val + r.val < 100000) : (win1_2.xblock (grid1.coords t)).Idx := fun a =>
  match a with
  | ⟨0, _⟩ => ⟨r.val, (row_moved r.isLt h).trans_eq (congrArg (fun i => (Pipeline.Clip.of i 1024 100000).extent 1024) (index_out t).symm)⟩
  | ⟨1, _⟩ => ⟨k.val, k.isLt⟩

variable (ev : (c : Dev nD) → Buf (Elt F) ((c : Thread nD τ).loc main_arg2))
  (gv : (c : Dev nD) → Buf (Elt F) ((c : Thread nD τ).loc main_v2))
  (wv : (c : Dev nD) → Buf (Elt F) ((c : Thread nD τ).loc main_v3))

/-- The staged block, at a row inside the table, is the table's row. -/
theorem staged (c : Dev nD) (t : Fin grid1.N) (d : S1024x64.Idx → Elt F .f32) (r : Fin 1024) (k : Fin 64) (v : Fin 100000)
    (hv : v.val = 1024 * t.val + r.val) :
    win1_0.fill (grid1.coords t) d (tblk ev c t) (ix2 r k) = ev c (ix2 v k) := by
  have h : 1024 * t.val + r.val < 100000 := hv ▸ v.isLt
  have e := win1_0.fill_xinj (grid1.coords t) d (tblk ev c t) (inAt t r k h)
  have ej : win1_0.xinj (grid1.coords t) (inAt t r k h) = ix2 r k := funext fun a => match a with
    | ⟨0, _⟩ => rfl
    | ⟨1, _⟩ => rfl
  refine (congrArg _ ej.symm).trans (e.trans (congrArg (ev c) (funext fun a => Fin.ext ?_)))
  match a with
  | ⟨0, _⟩ =>
    show win1_0.index t (0 : Fin 2) * 1024 + 1 * r.val = v.val
    rw [index_in]; omega
  | ⟨1, _⟩ => show 0 * 64 + 1 * k.val = k.val; omega

/-- Where an element of the moved part of the product's block lands. -/
theorem landed (t : Fin grid1.N) (x : (win1_2.xblock (grid1.coords t)).Idx) :
    (((win1_2.blk t).view.emb x : S100000x4096.Idx) (0 : Fin 2)).val = 1024 * t.val + (x (0 : Fin 2)).val := by
  show win1_2.index t (0 : Fin 2) * 1024 + 1 * (x (0 : Fin 2)).val = _
  rw [index_out]; omega

/-- The array once point `t` has been written back, at a row of the point's block: what was written there. -/
theorem written_at (t : Fin grid1.N) (G : S100000x4096.Idx → Elt F .f32) (X : S1024x4096.Idx → Elt F .f32) (r : Fin 1024) (k : Fin 4096)
    (v : Fin 100000) (hv : v.val = 1024 * t.val + r.val) :
    (win1_2.blk t).view.write (Elt F) G (win1_2.cut (grid1.coords t) X) Finset.univ (ix2 v k) = X (ix2 r k) := by
  have h : 1024 * t.val + r.val < 100000 := hv ▸ v.isLt
  have ex : (win1_2.blk t).view.emb (outAt t r k h) = (ix2 v k : S100000x4096.Idx) := funext fun a => Fin.ext (by
    match a with
    | ⟨0, _⟩ => exact (landed t (outAt t r k h)).trans hv.symm
    | ⟨1, _⟩ => show 0 * 4096 + 1 * k.val = k.val; omega)
  have ej : win1_2.xinj (grid1.coords t) (outAt t r k h) = ix2 r k := funext fun a => match a with
    | ⟨0, _⟩ => rfl
    | ⟨1, _⟩ => rfl
  have e := View.write_emb_of_mem (Val := Elt F) (v := (win1_2.blk t).view) G (win1_2.cut (grid1.coords t) X) (Finset.mem_univ (outAt t r k h))
  exact (congrArg _ ex.symm).trans (e.trans ((cast_eq _ _).trans (congrArg X ej)))

/-- At a row of an earlier block: what was there before. -/
theorem kept_at (t : Fin grid1.N) (G : S100000x4096.Idx → Elt F .f32) (Y : (win1_2.xblock (grid1.coords t)).Idx → Elt F .f32) (k : Fin 4096)
    (v : Fin 100000) (hv : v.val < 1024 * t.val) :
    (win1_2.blk t).view.write (Elt F) G Y Finset.univ (ix2 v k) = G (ix2 v k) := by
  refine View.write_of_not_mem _ _ _ fun hm => ?_
  obtain ⟨x, -, hx⟩ := Finset.mem_map.mp hm
  have h1 := landed t x
  rw [show ((win1_2.blk t).view.emb x : S100000x4096.Idx) = ix2 v k from hx] at h1
  have h2 : v.val = 1024 * t.val + (x (0 : Fin 2)).val := h1
  omega

/-- **What the region leaves**, at a row of a block already written: that block's tile. -/
theorem left_at (c : Dev nD) : ∀ (n : ℕ) (_ : n ≤ 98) (G : S100000x4096.Idx → Elt F .f32), (rdat ev gv wv c).ArrAt 2 n G →
    ∀ (t : Fin grid1.N) (r : Fin 1024) (k : Fin 4096) (v : Fin 100000), t.val < n → v.val = 1024 * t.val + r.val →
      ∃ d, G (ix2 v k) = tile ev gv c t d (ix2 r k)
  | 0, _, _, _, t, _, _, _, ht, _ => absurd ht (Nat.not_lt_zero _)
  | n + 1, hn, G, hG, t, r, k, v, ht, hv => by
    have hN : n < cfg1.N := hn
    have hG' : (rdat ev gv wv c).ArrStep 2 ⟨n, hN⟩ ((rdat ev gv wv c).ArrAt 2 n) G := by
      unfold RDat.ArrAt at hG
      rw [dif_pos hN, if_pos (flush1_2 ⟨n, hN⟩)] at hG
      exact hG
    obtain ⟨G₀, X, h0, ⟨Y, -, hY⟩, hW⟩ := hG'
    obtain ⟨d, hX⟩ : ∃ d, (X : S1024x4096.Idx → Elt F .f32) = tile ev gv c ⟨n, hN⟩ d := hY
    have hW' : G = (win1_2.blk ⟨n, hN⟩).view.write (Elt F) G₀ (win1_2.cut (grid1.coords ⟨n, hN⟩) X) Finset.univ := hW
    by_cases hlt : t.val < n
    · obtain ⟨d', e⟩ := left_at c n (Nat.le_of_succ_le hn) G₀ h0 t r k v hlt hv
      refine ⟨d', ((congrFun hW' _).trans (kept_at ⟨n, hN⟩ G₀ _ k v ?_)).trans e⟩
      have := r.isLt
      show v.val < 1024 * n
      omega
    · obtain rfl : t = ⟨n, hN⟩ := Fin.ext (by have : t.val < n + 1 := ht; show t.val = n; omega)
      exact ⟨d, (congrFun hW' _).trans ((written_at ⟨n, hN⟩ G₀ X r k v hv).trans (congrFun hX _))⟩

end Cert.Proof.Gather

end
-- ==== Proof.RefValue.lean ====
/-
  The reference's result, element by element: the product of the chosen row of the input table with a row of the
  output table, summed over the sixty-four columns.
-/
module

public import proofs.«01_k».proof.Proof.Gen.ReferenceIdeal.Run
public import Idealize.ShloMosaic.Lib.ReduceAll
public import Idealize.ShloMosaic.Lib.Routing.Ops
public import Idealize.ShloMosaic.Lib.StackMember

@[expose] public section

noncomputable section

namespace Cert.Proof.Reference

open Cert.ReferenceIdeal Cert.ReferenceIdeal.Gen

open Idealize.ShloMosaic
open Idealize.ShloMosaic.TcCoe
open Idealize.ShloMosaic.ValueIdx

variable (w : IVec S4096 32) (a b : FVec Ideal S100000x64 .f32)

/-- The row of the table the `i`-th word names. -/
def rowOf (i : Fin 4096) : Fin 100000 := ⟨(w (ix1 i)).toNat % 100000, Nat.mod_lt _ (by decide)⟩

/-- The scores: row `j 0`'s word chooses a row of `a`, which is multiplied with row `j 1` of `b`. -/
def score : FVec Ideal S4096x100000 .f32 := fun j =>
  ∑ k : Fin 64, a (ix2 (rowOf w (j 0)) k) * b (ix2 (j 1 : Fin 100000) k)

/-! ## The words, as the reference prepares them -/

/-- The words, a negative one moved up by the table's height. -/
def wrapped : IVec S4096 32 :=
  select (cmpi .slt w (broadcastInDim S4096 ![] bcast_S_S4096 (constantI S_ 32 0#32)))
    (addi w (broadcastInDim S4096 ![] bcast_S_S4096 (constantI S_ 32 100000#32))) w

/-- The same as a column. -/
def column : IVec S4096x1 32 := broadcastInDim S4096x1 ![0] bcast_S4096_S4096x1_0 (wrapped w)

/-- The bits that say which words are in range. -/
def inside : IVec S4096 1 :=
  Host.reduce IntOp.andi (andi (cmpi .sge (column w) (broadcastInDim S4096x1 ![] bcast_S_S4096x1 (constantI S_ 32 0#32)))
      (cmpi .sle (column w) (broadcastInDim S4096x1 ![0, 1] bcast_S1x1_S4096x1_0_1 (broadcastInDim S1x1 ![1] bcast_S1_S1x1_1 (constantI S1 32 99999#32)))))
    (constantI S_ 1 1#1) reducesTo_S4096x1_S4096_d1 h_S_

/-- The chosen rows, a row of a word out of range filled. -/
def chosen : FVec Ideal S4096x64 .f32 :=
  select (broadcastInDim S4096x64 ![0] bcast_S4096_S4096x64_0 (inside w))
    (Host.gather gather_S100000x64_S4096x1_S4096x64_1_0_n_n_0_1_164 a (column w))
    (broadcastInDim S4096x64 ![] bcast_S_S4096x64 (constant S_ .f32 0x7FC00000#32))

/-- The reference's result. -/
def result : FVec Ideal S4096x100000 .f32 :=
  Host.dotGeneral dot_S4096x64_S64x100000_S4096x100000_1_0_0_1_n_n none (chosen w a)
    (transpose S64x100000 [1, 0] b transposes_S100000x64_S64x100000_1_0)

variable {w}

/-- A row number is not negative, … -/
theorem not_negative (v : BitVec 32) (h : v.toNat < 100000) : IntOp.cmpi .slt v 0#32 = 0#1 := by
  simp only [IntOp.cmpi, BitVec.slt_eq_decide, BitVec.toInt_eq_toNat_cond, BitVec.toNat_ofNat, Nat.reducePow, Nat.reduceMod]
  rw [decide_eq_false (by omega)]; rfl

/-- … and passes both tests of the range. -/
theorem passes (v : BitVec 32) (h : v.toNat < 100000) :
    IntOp.andi (IntOp.cmpi .sge v 0#32) (IntOp.cmpi .sle v 99999#32) = 1#1 := by
  simp only [IntOp.cmpi, BitVec.sle_eq_decide, BitVec.toInt_eq_toNat_cond, BitVec.toNat_ofNat, Nat.reducePow, Nat.reduceMod]
  rw [decide_eq_true (by omega), decide_eq_true (by omega)]; rfl

section Small

variable (h : ∀ i, (w i).toNat < 100000)
include h

theorem wrapped_eq : wrapped w = w := funext fun i => by
  show Scalar.select (IntOp.cmpi .slt (w i) 0#32) _ _ = w i
  rw [not_negative _ (h i)]; rfl

theorem column_apply (j : S4096x1.Idx) : column w j = w (ix1 (j 0 : Fin 4096)) := by
  unfold column
  rw [wrapped_eq h]
  exact congrArg w (funext fun x => match x with | ⟨0, _⟩ => rfl)

theorem inside_apply (i : S4096.Idx) : inside w i = 1#1 := by
  unfold inside
  refine Host.reduce_andi_one _ _ _ _ i rfl fun j => ?_
  show IntOp.andi (IntOp.cmpi .sge (column w j) 0#32) (IntOp.cmpi .sle (column w j) 99999#32) = 1#1
  rw [column_apply h j]
  exact passes _ (h _)

theorem chosen_apply (i : Fin 4096) (k : Fin 64) : chosen w a (ix2 i k) = a (ix2 (rowOf w i) k) := by
  show Scalar.select (inside w _) (Host.gather gather_S100000x64_S4096x1_S4096x64_1_0_n_n_0_1_164 a (column w) (ix2 i k)) _ = _
  rw [inside_apply h]
  refine (select_one _ _).trans ?_
  refine Routing.gather_row (nb := 100000) (B := 64) (n := 4096) gather_S100000x64_S4096x1_S4096x64_1_0_n_n_0_1_164
    rfl rfl rfl rfl rfl a (column w) i k (rowOf w i) ?_ (by norm_num)
  rw [column_apply h]
  refine BitVec.eq_of_toNat_eq ?_
  have := h (ix1 i)
  show (w (ix1 i)).toNat = (BitVec.ofNat 32 ((w (ix1 i)).toNat % 100000)).toNat
  rw [BitVec.toNat_ofNat]; omega

/-- The reference computes the scores. -/
theorem result_eq : result w a b = score w a b := funext fun j => by
  obtain ⟨p, q, rfl⟩ : ∃ (p : Fin 4096) (q : Fin 100000), j = ix2 p q := ⟨j 0, j 1, eq_ix2 j⟩
  refine (StackMember.dotGeneral_plain_apply none (chosen w a)
    (transpose S64x100000 [1, 0] b transposes_S100000x64_S64x100000_1_0) p q).trans ?_
  refine Finset.sum_congr rfl fun k _ => congrArg₂ (· * ·) (chosen_apply a h p k) ?_
  refine transpose_apply _ b _ (ix2 k q) (ix2 q k) fun x => ?_
  match x with
  | ⟨0, _⟩ => rfl
  | ⟨1, _⟩ => rfl

end Small

end Cert.Proof.Reference

end
-- ==== Proof.Equation.lean ====
/-
  At the ideal values: the tile of the product, the gathered table and the precondition together give the
  reference's scores.
-/
module

public import proofs.«01_k».proof.Proof.Product
public import proofs.«01_k».proof.Proof.Range
public import proofs.«01_k».proof.Proof.RefValue
public import Idealize.ShloMosaic.Lib.MatmulPlain

@[expose] public section

noncomputable section

namespace Cert.Proof.Gather

open Cert.KernelIdeal Cert.KernelIdeal.Gen

open Idealize.ShloMosaic
open Idealize.ShloMosaic.TcCoe
open Idealize.ShloMosaic.ValueIdx

/-! ## The tile -/

/-- One of the first sixty-four columns of a gathered row. -/
def leftCol (k : Fin 64) : Fin 128 := ⟨k.val, by omega⟩

/-- At the ideal values the scratch is the gathered columns: its change of format changes nothing. -/
theorem scr_apply (g : S4096x128.Idx → Elt Ideal .f32) (w : Fin 4096) (k : Fin 64) :
    scr (F := Ideal) g (ix2 w k) = g (ix2 w (leftCol k)) := by
  unfold scr k1_pay1
  refine (shapeCast_apply _ shapeCasts_S4096x64_S4096x64 (ix2 w k) (ix2 w k) rfl).trans ?_
  refine (shapeCast_apply (leftCols (F := Ideal) g) shapeCasts_S4096x64_S4096x64 (ix2 w k) (ix2 w k) rfl).trans ?_
  refine congrArg g (funext fun a => Fin.ext ?_)
  match a with
  | ⟨0, _⟩ => show 0 + 1 * w.val = w.val; omega
  | ⟨1, _⟩ => show 0 + 1 * k.val = k.val; omega

/-- The product of a staged block with the scratch, at an element. -/
theorem pay2_apply (x : S1024x64.Idx → Elt Ideal .f32) (s : S4096x64.Idx → Elt Ideal .bf16) (r : Fin 1024) (w : Fin 4096) :
    k1_pay2 (F := Ideal) x s (ix2 r w) = ∑ k : Fin 64, (x (ix2 r k) : EReal) * s (ix2 w k) := by
  refine (Ideal.matmul_transposedRhs_apply (M := 1024) (K := 64) (N := 4096) none (truncf (F := Ideal) .bf16 x bitsLt_bf16_f32) s
    (constant S1024x4096 .f32 0x00000000#32) r w).trans ?_
  refine (congrArg (· + _) Ideal.ofBits_zero_f32).trans ((zero_add _).trans ?_)
  rfl

/-! ## The gathered table -/

variable (m : (ℓ : Loc nD τ sig) → Buf (Elt Ideal) ℓ)

/-- The arguments on device `d`. -/
abbrev words (d : Dev nD) : IVec S4096 32 := m ((d.tc : Thread nD τ).loc main_arg0)
abbrev inTab (d : Dev nD) : FVec Ideal S100000x64 .f32 := m ((d.tc : Thread nD τ).loc main_arg1)
abbrev outTab (d : Dev nD) : FVec Ideal S100000x64 .f32 := m ((d.tc : Thread nD τ).loc main_arg2)

/-- The padded table's first sixty-four columns are the table's. -/
theorem padded_apply (d : Dev nD) (i : Fin 100000) (k : Fin 64) : xv m d (ix2 i (leftCol k)) = inTab m d (ix2 i k) := by
  unfold xv pad
  have hin : ∀ a : Fin S100000x64.rank,
      (![0, 0] : Fin 2 → ℕ) a ≤ ((ix2 i (leftCol k) : S100000x128.Idx) (a.cast pads_S100000x64_S100000x128_000_0640.1)).val
        ∧ (((ix2 i (leftCol k) : S100000x128.Idx) (a.cast pads_S100000x64_S100000x128_000_0640.1)).val - (![0, 0] : Fin 2 → ℕ) a) % ((![0, 0] : Fin 2 → ℕ) a + 1) = 0
        ∧ (((ix2 i (leftCol k) : S100000x128.Idx) (a.cast pads_S100000x64_S100000x128_000_0640.1)).val - (![0, 0] : Fin 2 → ℕ) a) / ((![0, 0] : Fin 2 → ℕ) a + 1) < S100000x64.size a := fun a =>
    match a with
    | ⟨0, _⟩ => ⟨Nat.zero_le _, Nat.mod_one _, by show (i.val - 0) / 1 < 100000; have := i.isLt; omega⟩
    | ⟨1, _⟩ => ⟨Nat.zero_le _, Nat.mod_one _, by show (k.val - 0) / 1 < 64; have := k.isLt; omega⟩
  refine (dif_pos hin).trans (congrArg (inTab m d) (funext fun a => Fin.ext ?_))
  match a with
  | ⟨0, _⟩ => show (i.val - 0) / 1 = i.val; omega
  | ⟨1, _⟩ => show (k.val - 0) / 1 = k.val; omega

/-- The index table's word for the `i`-th row is the list's `i`-th word. -/
theorem word_apply (d : Dev nD) (i : Fin 4096) : iv m d (wordAt i) = words m d (ix1 i) := by
  unfold iv
  refine shapeCast_apply (words m d) shapeCasts_S4096_S32x128 (wordAt i) (ix1 i) ?_
  rw [Shape.rowMajor_val_one, Shape.rowMajor_val_two]
  show i.val = i.val / 128 * 128 + i.val % 128
  omega

/-- The gathered array's first sixty-four columns are the chosen rows. -/
theorem gathered_apply (d : Dev nD) (i : Fin 4096) (k : Fin 64) :
    gv m d (ix2 i (leftCol k)) = inTab m d (ix2 (Reference.rowOf (words m d) i) k) := by
  refine Eq.trans ?_ (padded_apply m d (Reference.rowOf (words m d) i) k)
  refine congrArg (xv m d) (congrArg (fun p : Fin 100000 => (ix2 p (leftCol k) : S100000x128.Idx)) (Fin.ext ?_))
  exact congrArg (fun v : BitVec 32 => v.toNat % 100000) (word_apply m d i)

/-! ## The result -/

/-- The kernel's result is the reference's scores. -/
theorem turned_eq (d : Dev nD) (G : S100000x4096.Idx → Elt Ideal .f32) (hG : (rd m d).ArrAt 2 cfg1.N G) :
    turned (F := Ideal) G = Reference.score (words m d) (inTab m d) (outTab m d) := funext fun j => by
  obtain ⟨w, v, rfl⟩ : ∃ (w : Fin 4096) (v : Fin 100000), j = ix2 w v := ⟨j 0, j 1, eq_ix2 j⟩
  have hv := v.isLt
  have ht : v.val / 1024 < 98 := by omega
  have hv' : v.val = 1024 * (v.val / 1024) + v.val % 1024 := by omega
  obtain ⟨e, he⟩ := left_at (ev m) (gv m) (wv m) d 98 le_rfl G hG ⟨v.val / 1024, ht⟩ ⟨v.val % 1024, Nat.mod_lt _ (by decide)⟩ w v ht hv'
  have h1 : turned (F := Ideal) G (ix2 w v) = G (ix2 v w) :=
    transpose_apply _ G _ (ix2 w v) (ix2 v w) fun x => match x with
      | ⟨0, _⟩ => rfl
      | ⟨1, _⟩ => rfl
  refine h1.trans (he.trans ?_)
  unfold tile
  refine (pay2_apply _ _ _ w).trans (Finset.sum_congr rfl fun k _ => ?_)
  refine (congrArg₂ (fun p q : EReal => p * q)
    (staged (ev m) d ⟨v.val / 1024, ht⟩ e ⟨v.val % 1024, Nat.mod_lt _ (by decide)⟩ k v hv')
    ((scr_apply (gv m d) w k).trans (gathered_apply m d w k))).trans ?_
  exact mul_comm _ _

end Cert.Proof.Gather

end
-- ==== Proof.lean ====
/-
  The proof of `Cert.Claim`: the three frames, the kernel's printed text kept by the idealization, and the equation
  of the two results at the ideal values.
-/
module

public import proofs.«01_k».proof.Defs
public import proofs.«01_k».proof.Proof.Frames
public import proofs.«01_k».proof.Proof.Equation

@[expose] public section

noncomputable section

namespace Cert.Proof

open Idealize.ShloMosaic Idealize.SL.Sem
open Idealize.ShloMosaic.TcCoe

/-- From the same arguments, kernel and reference end with the same scores. -/
theorem same_scores : Cert.algebraic_KernelIdeal_ReferenceIdeal := fun m g m' g' hp hargs => by
  have hs : ∀ c, ∀ i, (Gather.words m c i).toNat < 100000 := fun c => Gather.small_of_pre _ _ _ (hp c)
  refine ⟨fun c => Reference.score (Gather.words m c) (Gather.inTab m c) (Gather.outTab m c),
    (θ_run (Cert.KernelIdeal.defs (F := Ideal)) _ _).mono ?_
      (Gather.run_main (F := Ideal) m g fun d => Gather.inRange_of_small m d (hs d)),
    (θ_run (Cert.ReferenceIdeal.defs (F := Ideal)) _ _).mono ?_ (Cert.ReferenceIdeal.Value.run (F := Ideal) m' g')⟩
  · intro r h c
    obtain ⟨h0, h1, h2, G, hG, hv⟩ := h.1 c
    exact ⟨hv.trans (Gather.turned_eq m c G hG), h0, h1, h2⟩
  · intro r h c
    obtain ⟨hv, h0, h1, h2⟩ := h c
    obtain ⟨e0, e1, e2⟩ := hargs c
    refine ⟨hv.trans ?_, h0, h1, h2⟩
    rw [e0, e1, e2]
    exact Reference.result_eq (Gather.inTab m c) (Gather.outTab m c) (hs c)

theorem claim : Cert.Claim :=
  ⟨Cert.Kernel.Gen.facts, Cert.KernelIdeal.Gen.facts, Cert.ReferenceIdeal.Gen.facts, Cert.Pre_in_vocabulary.Gen.facts,
    Gather.frame_kernel, Gather.frame_ideal, Gather.frame_reference, trivial, same_scores⟩

end Cert.Proof

end
